-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 4096]⟩ ⟨2, ![4096, 4096]⟩ 0 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 8192]⟩ 1 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S128x4096 : Shape := ⟨2, ![128, 4096]⟩
abbrev S4096x8192 : Shape := ⟨2, ![4096, 8192]⟩
abbrev S4096x256 : Shape := ⟨2, ![4096, 256]⟩
abbrev S2x4096x512 : Shape := ⟨3, ![2, 4096, 512]⟩
abbrev S32x128x256 : Shape := ⟨3, ![32, 128, 256]⟩
abbrev S2x2 : Shape := ⟨2, ![2, 2]⟩
abbrev S32 : Shape := ⟨1, ![32]⟩
abbrev S_ : Shape := ⟨0, ![]⟩
abbrev S1x1 : Shape := ⟨2, ![1, 1]⟩
abbrev S1x4096x256 : Shape := ⟨3, ![1, 4096, 256]⟩
abbrev S1x4096x512 : Shape := ⟨3, ![1, 4096, 512]⟩
abbrev S4096x512 : Shape := ⟨2, ![4096, 512]⟩
abbrev S128x512 : Shape := ⟨2, ![128, 512]⟩
abbrev S128x256 : Shape := ⟨2, ![128, 256]⟩
abbrev S1x128x256 : Shape := ⟨3, ![1, 128, 256]⟩
abbrev S1 : Shape := ⟨1, ![1]⟩

abbrev nBuf : Space → Nat
  | .hbm => 3
  | .vmem => 5
  | .smem => 0
  | _ => 0

abbrev bufTy : (tb : Table) → Fin (tcTables nBuf tb) → BufTy
  | .hbm, ⟨0, _⟩ => ⟨S128x4096, .f32⟩
  | .hbm, ⟨1, _⟩ => ⟨S4096x8192, .f32⟩
  | .hbm, ⟨2, _⟩ => ⟨S4096x256, .f32⟩
  | .local _ .vmem, ⟨0, _⟩ => ⟨S128x4096, .f32⟩
  | .local _ .vmem, ⟨1, _⟩ => ⟨S4096x256, .f32⟩
  | .local _ .vmem, ⟨2, _⟩ => ⟨S2x4096x512, .f32⟩
  | .local _ .vmem, ⟨3, _⟩ => ⟨S32x128x256, .bf16⟩
  | .local _ .vmem, ⟨4, _⟩ => ⟨S32x128x256, .bf16⟩
  | _, _ => ⟨S128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 70 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | _ => false

abbrev sig : RefSig :=
  (ofTc nBuf bufTy 1 70 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

@[reducible] def k0_t1_loop : Scf.Loop 32 :=
  let c1_i32_0 : BitVec 32 := 1#32
  let c31_i32 : BitVec 32 := 31#32
  let v4 : BitVec 32 := Scalar.addi c1_i32_0 c31_i32
  let c1_i32_1 : BitVec 32 := 1#32
  ⟨c1_i32_0, v4, c1_i32_1⟩
def k0_dev1 (d0 : Dev nD) (k0_t1 : Fin k0_t1_loop.trips) : Nat :=
  let c0_i32_2275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let c1_i32_1 : BitVec 32 := 1#32
  let arg9 : BitVec 32 := Scf.iv c1_i32_0 c1_i32_1 k0_t1
  let v2962 : BitVec 32 := Scalar.addi v2 arg9
  let c32_i32_2267 : BitVec 32 := 32#32
  let c0_i32_2268 : BitVec 32 := 0#32
  let v2963 : BitVec 1 := Scalar.cmpi .eq c32_i32_2267 c0_i32_2268
  let c1_i32_2269 : BitVec 32 := 1#32
  let v2964 : BitVec 32 := Scalar.select v2963 c1_i32_2269 c32_i32_2267
  let v2965 : BitVec 32 := Scalar.remsi v2962 v2964
  let c0_i32_2271 : BitVec 32 := 0#32
  let v2967 : BitVec 1 := Scalar.cmpi .slt v2965 c0_i32_2271
  let c0_i32_2272 : BitVec 32 := 0#32
  let v2968 : BitVec 1 := Scalar.cmpi .slt v2964 c0_i32_2272
  let v2969 : BitVec 1 := Scalar.xori v2967 v2968
  let c0_i32_2270 : BitVec 32 := 0#32
  let v2966 : BitVec 1 := Scalar.cmpi .ne v2965 c0_i32_2270
  let v2970 : BitVec 1 := Scalar.andi v2969 v2966
  let v2971 : BitVec 32 := Scalar.addi v2965 v2964
  let v2972 : BitVec 32 := Scalar.select v2970 v2971 v2965
  let c1_i32_2274 : BitVec 32 := 1#32
  let v2973 : BitVec 32 := Scalar.muli v2972 c1_i32_2274
  let v2974 : BitVec 32 := Scalar.addi c0_i32_2275 v2973
  v2974.toNat
def k0_off1 (d0 : Dev nD) (c0_i32 : BitVec 32) : Fin 2 → Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v5 : BitVec 32 := Scalar.addi v2 c0_i32
  let c32_i32_4 : BitVec 32 := 32#32
  let c0_i32_5 : BitVec 32 := 0#32
  let v6 : BitVec 1 := Scalar.cmpi .eq c32_i32_4 c0_i32_5
  let c1_i32_6 : BitVec 32 := 1#32
  let v7 : BitVec 32 := Scalar.select v6 c1_i32_6 c32_i32_4
  let v8 : BitVec 32 := Scalar.remsi v5 v7
  let c0_i32_8 : BitVec 32 := 0#32
  let v10 : BitVec 1 := Scalar.cmpi .slt v8 c0_i32_8
  let c0_i32_9 : BitVec 32 := 0#32
  let v11 : BitVec 1 := Scalar.cmpi .slt v7 c0_i32_9
  let v12 : BitVec 1 := Scalar.xori v10 v11
  let c0_i32_7 : BitVec 32 := 0#32
  let v9 : BitVec 1 := Scalar.cmpi .ne v8 c0_i32_7
  let v13 : BitVec 1 := Scalar.andi v12 v9
  let v14 : BitVec 32 := Scalar.addi v8 v7
  let v15 : BitVec 32 := Scalar.select v13 v14 v8
  let c256_i32 : BitVec 32 := 256#32
  let v16 : BitVec 32 := Scalar.muli v15 c256_i32
  ![0, v16.toNat]
def k0_off2 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v115 : BitVec 32 := Scalar.muli v2 c128_i32
  let v116 : Index := Scalar.indexCast v115
  let c0_88 : Index := 0#32
  ![v116.toNat, 0]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_102 : BitVec 32 := 0#32
  let c0_i32_103 : BitVec 32 := 0#32
  ![v2.toNat, 0, 0]
def k0_dev2 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_91 : BitVec 32 := 1#32
  let v123 : BitVec 32 := Scalar.addi v2 c1_i32_91
  let c32_i32_92 : BitVec 32 := 32#32
  let c0_i32_93 : BitVec 32 := 0#32
  let v124 : BitVec 1 := Scalar.cmpi .eq c32_i32_92 c0_i32_93
  let c1_i32_94 : BitVec 32 := 1#32
  let v125 : BitVec 32 := Scalar.select v124 c1_i32_94 c32_i32_92
  let v126 : BitVec 32 := Scalar.remsi v123 v125
  let c0_i32_96 : BitVec 32 := 0#32
  let v128 : BitVec 1 := Scalar.cmpi .slt v126 c0_i32_96
  let c0_i32_97 : BitVec 32 := 0#32
  let v129 : BitVec 1 := Scalar.cmpi .slt v125 c0_i32_97
  let v130 : BitVec 1 := Scalar.xori v128 v129
  let c0_i32_95 : BitVec 32 := 0#32
  let v127 : BitVec 1 := Scalar.cmpi .ne v126 c0_i32_95
  let v131 : BitVec 1 := Scalar.andi v130 v127
  let v132 : BitVec 32 := Scalar.addi v126 v125
  let v133 : BitVec 32 := Scalar.select v131 v132 v126
  let c1_i32_100 : BitVec 32 := 1#32
  let v134 : BitVec 32 := Scalar.muli v133 c1_i32_100
  let v135 : BitVec 32 := Scalar.addi c0_i32_101 v134
  v135.toNat
def k0_dev3 (d0 : Dev nD) : Nat :=
  let c0_i32_176 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_166 : BitVec 32 := 2#32
  let v221 : BitVec 32 := Scalar.addi v2 c2_i32_166
  let c32_i32_167 : BitVec 32 := 32#32
  let c0_i32_168 : BitVec 32 := 0#32
  let v222 : BitVec 1 := Scalar.cmpi .eq c32_i32_167 c0_i32_168
  let c1_i32_169 : BitVec 32 := 1#32
  let v223 : BitVec 32 := Scalar.select v222 c1_i32_169 c32_i32_167
  let v224 : BitVec 32 := Scalar.remsi v221 v223
  let c0_i32_171 : BitVec 32 := 0#32
  let v226 : BitVec 1 := Scalar.cmpi .slt v224 c0_i32_171
  let c0_i32_172 : BitVec 32 := 0#32
  let v227 : BitVec 1 := Scalar.cmpi .slt v223 c0_i32_172
  let v228 : BitVec 1 := Scalar.xori v226 v227
  let c0_i32_170 : BitVec 32 := 0#32
  let v225 : BitVec 1 := Scalar.cmpi .ne v224 c0_i32_170
  let v229 : BitVec 1 := Scalar.andi v228 v225
  let v230 : BitVec 32 := Scalar.addi v224 v223
  let v231 : BitVec 32 := Scalar.select v229 v230 v224
  let c1_i32_175 : BitVec 32 := 1#32
  let v232 : BitVec 32 := Scalar.muli v231 c1_i32_175
  let v233 : BitVec 32 := Scalar.addi c0_i32_176 v232
  v233.toNat
def k0_dev4 (d0 : Dev nD) : Nat :=
  let c0_i32_193 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_183 : BitVec 32 := 3#32
  let v247 : BitVec 32 := Scalar.addi v2 c3_i32_183
  let c32_i32_184 : BitVec 32 := 32#32
  let c0_i32_185 : BitVec 32 := 0#32
  let v248 : BitVec 1 := Scalar.cmpi .eq c32_i32_184 c0_i32_185
  let c1_i32_186 : BitVec 32 := 1#32
  let v249 : BitVec 32 := Scalar.select v248 c1_i32_186 c32_i32_184
  let v250 : BitVec 32 := Scalar.remsi v247 v249
  let c0_i32_188 : BitVec 32 := 0#32
  let v252 : BitVec 1 := Scalar.cmpi .slt v250 c0_i32_188
  let c0_i32_189 : BitVec 32 := 0#32
  let v253 : BitVec 1 := Scalar.cmpi .slt v249 c0_i32_189
  let v254 : BitVec 1 := Scalar.xori v252 v253
  let c0_i32_187 : BitVec 32 := 0#32
  let v251 : BitVec 1 := Scalar.cmpi .ne v250 c0_i32_187
  let v255 : BitVec 1 := Scalar.andi v254 v251
  let v256 : BitVec 32 := Scalar.addi v250 v249
  let v257 : BitVec 32 := Scalar.select v255 v256 v250
  let c1_i32_192 : BitVec 32 := 1#32
  let v258 : BitVec 32 := Scalar.muli v257 c1_i32_192
  let v259 : BitVec 32 := Scalar.addi c0_i32_193 v258
  v259.toNat
def k0_dev5 (d0 : Dev nD) : Nat :=
  let c0_i32_268 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_258 : BitVec 32 := 4#32
  let v345 : BitVec 32 := Scalar.addi v2 c4_i32_258
  let c32_i32_259 : BitVec 32 := 32#32
  let c0_i32_260 : BitVec 32 := 0#32
  let v346 : BitVec 1 := Scalar.cmpi .eq c32_i32_259 c0_i32_260
  let c1_i32_261 : BitVec 32 := 1#32
  let v347 : BitVec 32 := Scalar.select v346 c1_i32_261 c32_i32_259
  let v348 : BitVec 32 := Scalar.remsi v345 v347
  let c0_i32_263 : BitVec 32 := 0#32
  let v350 : BitVec 1 := Scalar.cmpi .slt v348 c0_i32_263
  let c0_i32_264 : BitVec 32 := 0#32
  let v351 : BitVec 1 := Scalar.cmpi .slt v347 c0_i32_264
  let v352 : BitVec 1 := Scalar.xori v350 v351
  let c0_i32_262 : BitVec 32 := 0#32
  let v349 : BitVec 1 := Scalar.cmpi .ne v348 c0_i32_262
  let v353 : BitVec 1 := Scalar.andi v352 v349
  let v354 : BitVec 32 := Scalar.addi v348 v347
  let v355 : BitVec 32 := Scalar.select v353 v354 v348
  let c1_i32_267 : BitVec 32 := 1#32
  let v356 : BitVec 32 := Scalar.muli v355 c1_i32_267
  let v357 : BitVec 32 := Scalar.addi c0_i32_268 v356
  v357.toNat
def k0_dev6 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_275 : BitVec 32 := 5#32
  let v371 : BitVec 32 := Scalar.addi v2 c5_i32_275
  let c32_i32_276 : BitVec 32 := 32#32
  let c0_i32_277 : BitVec 32 := 0#32
  let v372 : BitVec 1 := Scalar.cmpi .eq c32_i32_276 c0_i32_277
  let c1_i32_278 : BitVec 32 := 1#32
  let v373 : BitVec 32 := Scalar.select v372 c1_i32_278 c32_i32_276
  let v374 : BitVec 32 := Scalar.remsi v371 v373
  let c0_i32_280 : BitVec 32 := 0#32
  let v376 : BitVec 1 := Scalar.cmpi .slt v374 c0_i32_280
  let c0_i32_281 : BitVec 32 := 0#32
  let v377 : BitVec 1 := Scalar.cmpi .slt v373 c0_i32_281
  let v378 : BitVec 1 := Scalar.xori v376 v377
  let c0_i32_279 : BitVec 32 := 0#32
  let v375 : BitVec 1 := Scalar.cmpi .ne v374 c0_i32_279
  let v379 : BitVec 1 := Scalar.andi v378 v375
  let v380 : BitVec 32 := Scalar.addi v374 v373
  let v381 : BitVec 32 := Scalar.select v379 v380 v374
  let c1_i32_284 : BitVec 32 := 1#32
  let v382 : BitVec 32 := Scalar.muli v381 c1_i32_284
  let v383 : BitVec 32 := Scalar.addi c0_i32_285 v382
  v383.toNat
def k0_dev7 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_350 : BitVec 32 := 6#32
  let v469 : BitVec 32 := Scalar.addi v2 c6_i32_350
  let c32_i32_351 : BitVec 32 := 32#32
  let c0_i32_352 : BitVec 32 := 0#32
  let v470 : BitVec 1 := Scalar.cmpi .eq c32_i32_351 c0_i32_352
  let c1_i32_353 : BitVec 32 := 1#32
  let v471 : BitVec 32 := Scalar.select v470 c1_i32_353 c32_i32_351
  let v472 : BitVec 32 := Scalar.remsi v469 v471
  let c0_i32_355 : BitVec 32 := 0#32
  let v474 : BitVec 1 := Scalar.cmpi .slt v472 c0_i32_355
  let c0_i32_356 : BitVec 32 := 0#32
  let v475 : BitVec 1 := Scalar.cmpi .slt v471 c0_i32_356
  let v476 : BitVec 1 := Scalar.xori v474 v475
  let c0_i32_354 : BitVec 32 := 0#32
  let v473 : BitVec 1 := Scalar.cmpi .ne v472 c0_i32_354
  let v477 : BitVec 1 := Scalar.andi v476 v473
  let v478 : BitVec 32 := Scalar.addi v472 v471
  let v479 : BitVec 32 := Scalar.select v477 v478 v472
  let c1_i32_359 : BitVec 32 := 1#32
  let v480 : BitVec 32 := Scalar.muli v479 c1_i32_359
  let v481 : BitVec 32 := Scalar.addi c0_i32_360 v480
  v481.toNat
def k0_dev8 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_367 : BitVec 32 := 7#32
  let v495 : BitVec 32 := Scalar.addi v2 c7_i32_367
  let c32_i32_368 : BitVec 32 := 32#32
  let c0_i32_369 : BitVec 32 := 0#32
  let v496 : BitVec 1 := Scalar.cmpi .eq c32_i32_368 c0_i32_369
  let c1_i32_370 : BitVec 32 := 1#32
  let v497 : BitVec 32 := Scalar.select v496 c1_i32_370 c32_i32_368
  let v498 : BitVec 32 := Scalar.remsi v495 v497
  let c0_i32_372 : BitVec 32 := 0#32
  let v500 : BitVec 1 := Scalar.cmpi .slt v498 c0_i32_372
  let c0_i32_373 : BitVec 32 := 0#32
  let v501 : BitVec 1 := Scalar.cmpi .slt v497 c0_i32_373
  let v502 : BitVec 1 := Scalar.xori v500 v501
  let c0_i32_371 : BitVec 32 := 0#32
  let v499 : BitVec 1 := Scalar.cmpi .ne v498 c0_i32_371
  let v503 : BitVec 1 := Scalar.andi v502 v499
  let v504 : BitVec 32 := Scalar.addi v498 v497
  let v505 : BitVec 32 := Scalar.select v503 v504 v498
  let c1_i32_376 : BitVec 32 := 1#32
  let v506 : BitVec 32 := Scalar.muli v505 c1_i32_376
  let v507 : BitVec 32 := Scalar.addi c0_i32_377 v506
  v507.toNat
def k0_dev9 (d0 : Dev nD) : Nat :=
  let c0_i32_452 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_442 : BitVec 32 := 8#32
  let v593 : BitVec 32 := Scalar.addi v2 c8_i32_442
  let c32_i32_443 : BitVec 32 := 32#32
  let c0_i32_444 : BitVec 32 := 0#32
  let v594 : BitVec 1 := Scalar.cmpi .eq c32_i32_443 c0_i32_444
  let c1_i32_445 : BitVec 32 := 1#32
  let v595 : BitVec 32 := Scalar.select v594 c1_i32_445 c32_i32_443
  let v596 : BitVec 32 := Scalar.remsi v593 v595
  let c0_i32_447 : BitVec 32 := 0#32
  let v598 : BitVec 1 := Scalar.cmpi .slt v596 c0_i32_447
  let c0_i32_448 : BitVec 32 := 0#32
  let v599 : BitVec 1 := Scalar.cmpi .slt v595 c0_i32_448
  let v600 : BitVec 1 := Scalar.xori v598 v599
  let c0_i32_446 : BitVec 32 := 0#32
  let v597 : BitVec 1 := Scalar.cmpi .ne v596 c0_i32_446
  let v601 : BitVec 1 := Scalar.andi v600 v597
  let v602 : BitVec 32 := Scalar.addi v596 v595
  let v603 : BitVec 32 := Scalar.select v601 v602 v596
  let c1_i32_451 : BitVec 32 := 1#32
  let v604 : BitVec 32 := Scalar.muli v603 c1_i32_451
  let v605 : BitVec 32 := Scalar.addi c0_i32_452 v604
  v605.toNat
def k0_dev10 (d0 : Dev nD) : Nat :=
  let c0_i32_469 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_459 : BitVec 32 := 9#32
  let v619 : BitVec 32 := Scalar.addi v2 c9_i32_459
  let c32_i32_460 : BitVec 32 := 32#32
  let c0_i32_461 : BitVec 32 := 0#32
  let v620 : BitVec 1 := Scalar.cmpi .eq c32_i32_460 c0_i32_461
  let c1_i32_462 : BitVec 32 := 1#32
  let v621 : BitVec 32 := Scalar.select v620 c1_i32_462 c32_i32_460
  let v622 : BitVec 32 := Scalar.remsi v619 v621
  let c0_i32_464 : BitVec 32 := 0#32
  let v624 : BitVec 1 := Scalar.cmpi .slt v622 c0_i32_464
  let c0_i32_465 : BitVec 32 := 0#32
  let v625 : BitVec 1 := Scalar.cmpi .slt v621 c0_i32_465
  let v626 : BitVec 1 := Scalar.xori v624 v625
  let c0_i32_463 : BitVec 32 := 0#32
  let v623 : BitVec 1 := Scalar.cmpi .ne v622 c0_i32_463
  let v627 : BitVec 1 := Scalar.andi v626 v623
  let v628 : BitVec 32 := Scalar.addi v622 v621
  let v629 : BitVec 32 := Scalar.select v627 v628 v622
  let c1_i32_468 : BitVec 32 := 1#32
  let v630 : BitVec 32 := Scalar.muli v629 c1_i32_468
  let v631 : BitVec 32 := Scalar.addi c0_i32_469 v630
  v631.toNat
def k0_off5 (d0 : Dev nD) (c1_i32_474 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v640 : BitVec 32 := Scalar.subi v2 c1_i32_474
  let c32_i32_475 : BitVec 32 := 32#32
  let c0_i32_476 : BitVec 32 := 0#32
  let v641 : BitVec 1 := Scalar.cmpi .eq c32_i32_475 c0_i32_476
  let c1_i32_477 : BitVec 32 := 1#32
  let v642 : BitVec 32 := Scalar.select v641 c1_i32_477 c32_i32_475
  let v643 : BitVec 32 := Scalar.remsi v640 v642
  let c0_i32_479 : BitVec 32 := 0#32
  let v645 : BitVec 1 := Scalar.cmpi .slt v643 c0_i32_479
  let c0_i32_480 : BitVec 32 := 0#32
  let v646 : BitVec 1 := Scalar.cmpi .slt v642 c0_i32_480
  let v647 : BitVec 1 := Scalar.xori v645 v646
  let c0_i32_478 : BitVec 32 := 0#32
  let v644 : BitVec 1 := Scalar.cmpi .ne v643 c0_i32_478
  let v648 : BitVec 1 := Scalar.andi v647 v644
  let v649 : BitVec 32 := Scalar.addi v643 v642
  let v650 : BitVec 32 := Scalar.select v648 v649 v643
  ![v650.toNat]
def k0_off6 (d0 : Dev nD) (c1_i32_474 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v640 : BitVec 32 := Scalar.subi v2 c1_i32_474
  let c32_i32_475 : BitVec 32 := 32#32
  let c0_i32_476 : BitVec 32 := 0#32
  let v641 : BitVec 1 := Scalar.cmpi .eq c32_i32_475 c0_i32_476
  let c1_i32_477 : BitVec 32 := 1#32
  let v642 : BitVec 32 := Scalar.select v641 c1_i32_477 c32_i32_475
  let v643 : BitVec 32 := Scalar.remsi v640 v642
  let c0_i32_479 : BitVec 32 := 0#32
  let v645 : BitVec 1 := Scalar.cmpi .slt v643 c0_i32_479
  let c0_i32_480 : BitVec 32 := 0#32
  let v646 : BitVec 1 := Scalar.cmpi .slt v642 c0_i32_480
  let v647 : BitVec 1 := Scalar.xori v645 v646
  let c0_i32_478 : BitVec 32 := 0#32
  let v644 : BitVec 1 := Scalar.cmpi .ne v643 c0_i32_478
  let v648 : BitVec 1 := Scalar.andi v647 v644
  let v649 : BitVec 32 := Scalar.addi v643 v642
  let v650 : BitVec 32 := Scalar.select v648 v649 v643
  let c0_i32_485 : BitVec 32 := 0#32
  let c0_i32_486 : BitVec 32 := 0#32
  ![v650.toNat, 0, 0]
def k0_off7 (d0 : Dev nD) (c1_i32_474 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v640 : BitVec 32 := Scalar.subi v2 c1_i32_474
  let c32_i32_475 : BitVec 32 := 32#32
  let c0_i32_476 : BitVec 32 := 0#32
  let v641 : BitVec 1 := Scalar.cmpi .eq c32_i32_475 c0_i32_476
  let c1_i32_477 : BitVec 32 := 1#32
  let v642 : BitVec 32 := Scalar.select v641 c1_i32_477 c32_i32_475
  let v643 : BitVec 32 := Scalar.remsi v640 v642
  let c0_i32_479 : BitVec 32 := 0#32
  let v645 : BitVec 1 := Scalar.cmpi .slt v643 c0_i32_479
  let c0_i32_480 : BitVec 32 := 0#32
  let v646 : BitVec 1 := Scalar.cmpi .slt v642 c0_i32_480
  let v647 : BitVec 1 := Scalar.xori v645 v646
  let c0_i32_478 : BitVec 32 := 0#32
  let v644 : BitVec 1 := Scalar.cmpi .ne v643 c0_i32_478
  let v648 : BitVec 1 := Scalar.andi v647 v644
  let v649 : BitVec 32 := Scalar.addi v643 v642
  let v650 : BitVec 32 := Scalar.select v648 v649 v643
  let v659 : Index := Scalar.indexCast v650
  let c0_489 : Index := 0#32
  let c0_490 : Index := 0#32
  ![v659.toNat, 0, 0]
def k0_off8 (d0 : Dev nD) (c1_i32_474 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v640 : BitVec 32 := Scalar.subi v2 c1_i32_474
  let c32_i32_475 : BitVec 32 := 32#32
  let c0_i32_476 : BitVec 32 := 0#32
  let v641 : BitVec 1 := Scalar.cmpi .eq c32_i32_475 c0_i32_476
  let c1_i32_477 : BitVec 32 := 1#32
  let v642 : BitVec 32 := Scalar.select v641 c1_i32_477 c32_i32_475
  let v643 : BitVec 32 := Scalar.remsi v640 v642
  let c0_i32_479 : BitVec 32 := 0#32
  let v645 : BitVec 1 := Scalar.cmpi .slt v643 c0_i32_479
  let c0_i32_480 : BitVec 32 := 0#32
  let v646 : BitVec 1 := Scalar.cmpi .slt v642 c0_i32_480
  let v647 : BitVec 1 := Scalar.xori v645 v646
  let c0_i32_478 : BitVec 32 := 0#32
  let v644 : BitVec 1 := Scalar.cmpi .ne v643 c0_i32_478
  let v648 : BitVec 1 := Scalar.andi v647 v644
  let v649 : BitVec 32 := Scalar.addi v643 v642
  let v650 : BitVec 32 := Scalar.select v648 v649 v643
  let c128_i32_491 : BitVec 32 := 128#32
  let v663 : BitVec 32 := Scalar.muli v650 c128_i32_491
  let v664 : Index := Scalar.indexCast v663
  let c0_492 : Index := 0#32
  ![v664.toNat, 0]
def k0_dev11 (d0 : Dev nD) : Nat :=
  let c0_i32_563 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_553 : BitVec 32 := 10#32
  let v743 : BitVec 32 := Scalar.addi v2 c10_i32_553
  let c32_i32_554 : BitVec 32 := 32#32
  let c0_i32_555 : BitVec 32 := 0#32
  let v744 : BitVec 1 := Scalar.cmpi .eq c32_i32_554 c0_i32_555
  let c1_i32_556 : BitVec 32 := 1#32
  let v745 : BitVec 32 := Scalar.select v744 c1_i32_556 c32_i32_554
  let v746 : BitVec 32 := Scalar.remsi v743 v745
  let c0_i32_558 : BitVec 32 := 0#32
  let v748 : BitVec 1 := Scalar.cmpi .slt v746 c0_i32_558
  let c0_i32_559 : BitVec 32 := 0#32
  let v749 : BitVec 1 := Scalar.cmpi .slt v745 c0_i32_559
  let v750 : BitVec 1 := Scalar.xori v748 v749
  let c0_i32_557 : BitVec 32 := 0#32
  let v747 : BitVec 1 := Scalar.cmpi .ne v746 c0_i32_557
  let v751 : BitVec 1 := Scalar.andi v750 v747
  let v752 : BitVec 32 := Scalar.addi v746 v745
  let v753 : BitVec 32 := Scalar.select v751 v752 v746
  let c1_i32_562 : BitVec 32 := 1#32
  let v754 : BitVec 32 := Scalar.muli v753 c1_i32_562
  let v755 : BitVec 32 := Scalar.addi c0_i32_563 v754
  v755.toNat
def k0_dev12 (d0 : Dev nD) : Nat :=
  let c0_i32_580 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_570 : BitVec 32 := 11#32
  let v769 : BitVec 32 := Scalar.addi v2 c11_i32_570
  let c32_i32_571 : BitVec 32 := 32#32
  let c0_i32_572 : BitVec 32 := 0#32
  let v770 : BitVec 1 := Scalar.cmpi .eq c32_i32_571 c0_i32_572
  let c1_i32_573 : BitVec 32 := 1#32
  let v771 : BitVec 32 := Scalar.select v770 c1_i32_573 c32_i32_571
  let v772 : BitVec 32 := Scalar.remsi v769 v771
  let c0_i32_575 : BitVec 32 := 0#32
  let v774 : BitVec 1 := Scalar.cmpi .slt v772 c0_i32_575
  let c0_i32_576 : BitVec 32 := 0#32
  let v775 : BitVec 1 := Scalar.cmpi .slt v771 c0_i32_576
  let v776 : BitVec 1 := Scalar.xori v774 v775
  let c0_i32_574 : BitVec 32 := 0#32
  let v773 : BitVec 1 := Scalar.cmpi .ne v772 c0_i32_574
  let v777 : BitVec 1 := Scalar.andi v776 v773
  let v778 : BitVec 32 := Scalar.addi v772 v771
  let v779 : BitVec 32 := Scalar.select v777 v778 v772
  let c1_i32_579 : BitVec 32 := 1#32
  let v780 : BitVec 32 := Scalar.muli v779 c1_i32_579
  let v781 : BitVec 32 := Scalar.addi c0_i32_580 v780
  v781.toNat
def k0_dev13 (d0 : Dev nD) : Nat :=
  let c0_i32_693 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_683 : BitVec 32 := 12#32
  let v919 : BitVec 32 := Scalar.addi v2 c12_i32_683
  let c32_i32_684 : BitVec 32 := 32#32
  let c0_i32_685 : BitVec 32 := 0#32
  let v920 : BitVec 1 := Scalar.cmpi .eq c32_i32_684 c0_i32_685
  let c1_i32_686 : BitVec 32 := 1#32
  let v921 : BitVec 32 := Scalar.select v920 c1_i32_686 c32_i32_684
  let v922 : BitVec 32 := Scalar.remsi v919 v921
  let c0_i32_688 : BitVec 32 := 0#32
  let v924 : BitVec 1 := Scalar.cmpi .slt v922 c0_i32_688
  let c0_i32_689 : BitVec 32 := 0#32
  let v925 : BitVec 1 := Scalar.cmpi .slt v921 c0_i32_689
  let v926 : BitVec 1 := Scalar.xori v924 v925
  let c0_i32_687 : BitVec 32 := 0#32
  let v923 : BitVec 1 := Scalar.cmpi .ne v922 c0_i32_687
  let v927 : BitVec 1 := Scalar.andi v926 v923
  let v928 : BitVec 32 := Scalar.addi v922 v921
  let v929 : BitVec 32 := Scalar.select v927 v928 v922
  let c1_i32_692 : BitVec 32 := 1#32
  let v930 : BitVec 32 := Scalar.muli v929 c1_i32_692
  let v931 : BitVec 32 := Scalar.addi c0_i32_693 v930
  v931.toNat
def k0_dev14 (d0 : Dev nD) : Nat :=
  let c0_i32_710 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_700 : BitVec 32 := 13#32
  let v945 : BitVec 32 := Scalar.addi v2 c13_i32_700
  let c32_i32_701 : BitVec 32 := 32#32
  let c0_i32_702 : BitVec 32 := 0#32
  let v946 : BitVec 1 := Scalar.cmpi .eq c32_i32_701 c0_i32_702
  let c1_i32_703 : BitVec 32 := 1#32
  let v947 : BitVec 32 := Scalar.select v946 c1_i32_703 c32_i32_701
  let v948 : BitVec 32 := Scalar.remsi v945 v947
  let c0_i32_705 : BitVec 32 := 0#32
  let v950 : BitVec 1 := Scalar.cmpi .slt v948 c0_i32_705
  let c0_i32_706 : BitVec 32 := 0#32
  let v951 : BitVec 1 := Scalar.cmpi .slt v947 c0_i32_706
  let v952 : BitVec 1 := Scalar.xori v950 v951
  let c0_i32_704 : BitVec 32 := 0#32
  let v949 : BitVec 1 := Scalar.cmpi .ne v948 c0_i32_704
  let v953 : BitVec 1 := Scalar.andi v952 v949
  let v954 : BitVec 32 := Scalar.addi v948 v947
  let v955 : BitVec 32 := Scalar.select v953 v954 v948
  let c1_i32_709 : BitVec 32 := 1#32
  let v956 : BitVec 32 := Scalar.muli v955 c1_i32_709
  let v957 : BitVec 32 := Scalar.addi c0_i32_710 v956
  v957.toNat
def k0_dev15 (d0 : Dev nD) : Nat :=
  let c0_i32_823 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_813 : BitVec 32 := 14#32
  let v1095 : BitVec 32 := Scalar.addi v2 c14_i32_813
  let c32_i32_814 : BitVec 32 := 32#32
  let c0_i32_815 : BitVec 32 := 0#32
  let v1096 : BitVec 1 := Scalar.cmpi .eq c32_i32_814 c0_i32_815
  let c1_i32_816 : BitVec 32 := 1#32
  let v1097 : BitVec 32 := Scalar.select v1096 c1_i32_816 c32_i32_814
  let v1098 : BitVec 32 := Scalar.remsi v1095 v1097
  let c0_i32_818 : BitVec 32 := 0#32
  let v1100 : BitVec 1 := Scalar.cmpi .slt v1098 c0_i32_818
  let c0_i32_819 : BitVec 32 := 0#32
  let v1101 : BitVec 1 := Scalar.cmpi .slt v1097 c0_i32_819
  let v1102 : BitVec 1 := Scalar.xori v1100 v1101
  let c0_i32_817 : BitVec 32 := 0#32
  let v1099 : BitVec 1 := Scalar.cmpi .ne v1098 c0_i32_817
  let v1103 : BitVec 1 := Scalar.andi v1102 v1099
  let v1104 : BitVec 32 := Scalar.addi v1098 v1097
  let v1105 : BitVec 32 := Scalar.select v1103 v1104 v1098
  let c1_i32_822 : BitVec 32 := 1#32
  let v1106 : BitVec 32 := Scalar.muli v1105 c1_i32_822
  let v1107 : BitVec 32 := Scalar.addi c0_i32_823 v1106
  v1107.toNat
def k0_dev16 (d0 : Dev nD) : Nat :=
  let c0_i32_840 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_830 : BitVec 32 := 15#32
  let v1121 : BitVec 32 := Scalar.addi v2 c15_i32_830
  let c32_i32_831 : BitVec 32 := 32#32
  let c0_i32_832 : BitVec 32 := 0#32
  let v1122 : BitVec 1 := Scalar.cmpi .eq c32_i32_831 c0_i32_832
  let c1_i32_833 : BitVec 32 := 1#32
  let v1123 : BitVec 32 := Scalar.select v1122 c1_i32_833 c32_i32_831
  let v1124 : BitVec 32 := Scalar.remsi v1121 v1123
  let c0_i32_835 : BitVec 32 := 0#32
  let v1126 : BitVec 1 := Scalar.cmpi .slt v1124 c0_i32_835
  let c0_i32_836 : BitVec 32 := 0#32
  let v1127 : BitVec 1 := Scalar.cmpi .slt v1123 c0_i32_836
  let v1128 : BitVec 1 := Scalar.xori v1126 v1127
  let c0_i32_834 : BitVec 32 := 0#32
  let v1125 : BitVec 1 := Scalar.cmpi .ne v1124 c0_i32_834
  let v1129 : BitVec 1 := Scalar.andi v1128 v1125
  let v1130 : BitVec 32 := Scalar.addi v1124 v1123
  let v1131 : BitVec 32 := Scalar.select v1129 v1130 v1124
  let c1_i32_839 : BitVec 32 := 1#32
  let v1132 : BitVec 32 := Scalar.muli v1131 c1_i32_839
  let v1133 : BitVec 32 := Scalar.addi c0_i32_840 v1132
  v1133.toNat
def k0_dev17 (d0 : Dev nD) : Nat :=
  let c0_i32_953 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_943 : BitVec 32 := 16#32
  let v1271 : BitVec 32 := Scalar.addi v2 c16_i32_943
  let c32_i32_944 : BitVec 32 := 32#32
  let c0_i32_945 : BitVec 32 := 0#32
  let v1272 : BitVec 1 := Scalar.cmpi .eq c32_i32_944 c0_i32_945
  let c1_i32_946 : BitVec 32 := 1#32
  let v1273 : BitVec 32 := Scalar.select v1272 c1_i32_946 c32_i32_944
  let v1274 : BitVec 32 := Scalar.remsi v1271 v1273
  let c0_i32_948 : BitVec 32 := 0#32
  let v1276 : BitVec 1 := Scalar.cmpi .slt v1274 c0_i32_948
  let c0_i32_949 : BitVec 32 := 0#32
  let v1277 : BitVec 1 := Scalar.cmpi .slt v1273 c0_i32_949
  let v1278 : BitVec 1 := Scalar.xori v1276 v1277
  let c0_i32_947 : BitVec 32 := 0#32
  let v1275 : BitVec 1 := Scalar.cmpi .ne v1274 c0_i32_947
  let v1279 : BitVec 1 := Scalar.andi v1278 v1275
  let v1280 : BitVec 32 := Scalar.addi v1274 v1273
  let v1281 : BitVec 32 := Scalar.select v1279 v1280 v1274
  let c1_i32_952 : BitVec 32 := 1#32
  let v1282 : BitVec 32 := Scalar.muli v1281 c1_i32_952
  let v1283 : BitVec 32 := Scalar.addi c0_i32_953 v1282
  v1283.toNat
def k0_dev18 (d0 : Dev nD) : Nat :=
  let c0_i32_970 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_960 : BitVec 32 := 17#32
  let v1297 : BitVec 32 := Scalar.addi v2 c17_i32_960
  let c32_i32_961 : BitVec 32 := 32#32
  let c0_i32_962 : BitVec 32 := 0#32
  let v1298 : BitVec 1 := Scalar.cmpi .eq c32_i32_961 c0_i32_962
  let c1_i32_963 : BitVec 32 := 1#32
  let v1299 : BitVec 32 := Scalar.select v1298 c1_i32_963 c32_i32_961
  let v1300 : BitVec 32 := Scalar.remsi v1297 v1299
  let c0_i32_965 : BitVec 32 := 0#32
  let v1302 : BitVec 1 := Scalar.cmpi .slt v1300 c0_i32_965
  let c0_i32_966 : BitVec 32 := 0#32
  let v1303 : BitVec 1 := Scalar.cmpi .slt v1299 c0_i32_966
  let v1304 : BitVec 1 := Scalar.xori v1302 v1303
  let c0_i32_964 : BitVec 32 := 0#32
  let v1301 : BitVec 1 := Scalar.cmpi .ne v1300 c0_i32_964
  let v1305 : BitVec 1 := Scalar.andi v1304 v1301
  let v1306 : BitVec 32 := Scalar.addi v1300 v1299
  let v1307 : BitVec 32 := Scalar.select v1305 v1306 v1300
  let c1_i32_969 : BitVec 32 := 1#32
  let v1308 : BitVec 32 := Scalar.muli v1307 c1_i32_969
  let v1309 : BitVec 32 := Scalar.addi c0_i32_970 v1308
  v1309.toNat
def k0_dev19 (d0 : Dev nD) : Nat :=
  let c0_i32_1083 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1073 : BitVec 32 := 18#32
  let v1447 : BitVec 32 := Scalar.addi v2 c18_i32_1073
  let c32_i32_1074 : BitVec 32 := 32#32
  let c0_i32_1075 : BitVec 32 := 0#32
  let v1448 : BitVec 1 := Scalar.cmpi .eq c32_i32_1074 c0_i32_1075
  let c1_i32_1076 : BitVec 32 := 1#32
  let v1449 : BitVec 32 := Scalar.select v1448 c1_i32_1076 c32_i32_1074
  let v1450 : BitVec 32 := Scalar.remsi v1447 v1449
  let c0_i32_1078 : BitVec 32 := 0#32
  let v1452 : BitVec 1 := Scalar.cmpi .slt v1450 c0_i32_1078
  let c0_i32_1079 : BitVec 32 := 0#32
  let v1453 : BitVec 1 := Scalar.cmpi .slt v1449 c0_i32_1079
  let v1454 : BitVec 1 := Scalar.xori v1452 v1453
  let c0_i32_1077 : BitVec 32 := 0#32
  let v1451 : BitVec 1 := Scalar.cmpi .ne v1450 c0_i32_1077
  let v1455 : BitVec 1 := Scalar.andi v1454 v1451
  let v1456 : BitVec 32 := Scalar.addi v1450 v1449
  let v1457 : BitVec 32 := Scalar.select v1455 v1456 v1450
  let c1_i32_1082 : BitVec 32 := 1#32
  let v1458 : BitVec 32 := Scalar.muli v1457 c1_i32_1082
  let v1459 : BitVec 32 := Scalar.addi c0_i32_1083 v1458
  v1459.toNat
def k0_dev20 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1090 : BitVec 32 := 19#32
  let v1473 : BitVec 32 := Scalar.addi v2 c19_i32_1090
  let c32_i32_1091 : BitVec 32 := 32#32
  let c0_i32_1092 : BitVec 32 := 0#32
  let v1474 : BitVec 1 := Scalar.cmpi .eq c32_i32_1091 c0_i32_1092
  let c1_i32_1093 : BitVec 32 := 1#32
  let v1475 : BitVec 32 := Scalar.select v1474 c1_i32_1093 c32_i32_1091
  let v1476 : BitVec 32 := Scalar.remsi v1473 v1475
  let c0_i32_1095 : BitVec 32 := 0#32
  let v1478 : BitVec 1 := Scalar.cmpi .slt v1476 c0_i32_1095
  let c0_i32_1096 : BitVec 32 := 0#32
  let v1479 : BitVec 1 := Scalar.cmpi .slt v1475 c0_i32_1096
  let v1480 : BitVec 1 := Scalar.xori v1478 v1479
  let c0_i32_1094 : BitVec 32 := 0#32
  let v1477 : BitVec 1 := Scalar.cmpi .ne v1476 c0_i32_1094
  let v1481 : BitVec 1 := Scalar.andi v1480 v1477
  let v1482 : BitVec 32 := Scalar.addi v1476 v1475
  let v1483 : BitVec 32 := Scalar.select v1481 v1482 v1476
  let c1_i32_1099 : BitVec 32 := 1#32
  let v1484 : BitVec 32 := Scalar.muli v1483 c1_i32_1099
  let v1485 : BitVec 32 := Scalar.addi c0_i32_1100 v1484
  v1485.toNat
def k0_dev21 (d0 : Dev nD) : Nat :=
  let c0_i32_1213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1203 : BitVec 32 := 20#32
  let v1623 : BitVec 32 := Scalar.addi v2 c20_i32_1203
  let c32_i32_1204 : BitVec 32 := 32#32
  let c0_i32_1205 : BitVec 32 := 0#32
  let v1624 : BitVec 1 := Scalar.cmpi .eq c32_i32_1204 c0_i32_1205
  let c1_i32_1206 : BitVec 32 := 1#32
  let v1625 : BitVec 32 := Scalar.select v1624 c1_i32_1206 c32_i32_1204
  let v1626 : BitVec 32 := Scalar.remsi v1623 v1625
  let c0_i32_1208 : BitVec 32 := 0#32
  let v1628 : BitVec 1 := Scalar.cmpi .slt v1626 c0_i32_1208
  let c0_i32_1209 : BitVec 32 := 0#32
  let v1629 : BitVec 1 := Scalar.cmpi .slt v1625 c0_i32_1209
  let v1630 : BitVec 1 := Scalar.xori v1628 v1629
  let c0_i32_1207 : BitVec 32 := 0#32
  let v1627 : BitVec 1 := Scalar.cmpi .ne v1626 c0_i32_1207
  let v1631 : BitVec 1 := Scalar.andi v1630 v1627
  let v1632 : BitVec 32 := Scalar.addi v1626 v1625
  let v1633 : BitVec 32 := Scalar.select v1631 v1632 v1626
  let c1_i32_1212 : BitVec 32 := 1#32
  let v1634 : BitVec 32 := Scalar.muli v1633 c1_i32_1212
  let v1635 : BitVec 32 := Scalar.addi c0_i32_1213 v1634
  v1635.toNat
def k0_dev22 (d0 : Dev nD) : Nat :=
  let c0_i32_1230 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1220 : BitVec 32 := 21#32
  let v1649 : BitVec 32 := Scalar.addi v2 c21_i32_1220
  let c32_i32_1221 : BitVec 32 := 32#32
  let c0_i32_1222 : BitVec 32 := 0#32
  let v1650 : BitVec 1 := Scalar.cmpi .eq c32_i32_1221 c0_i32_1222
  let c1_i32_1223 : BitVec 32 := 1#32
  let v1651 : BitVec 32 := Scalar.select v1650 c1_i32_1223 c32_i32_1221
  let v1652 : BitVec 32 := Scalar.remsi v1649 v1651
  let c0_i32_1225 : BitVec 32 := 0#32
  let v1654 : BitVec 1 := Scalar.cmpi .slt v1652 c0_i32_1225
  let c0_i32_1226 : BitVec 32 := 0#32
  let v1655 : BitVec 1 := Scalar.cmpi .slt v1651 c0_i32_1226
  let v1656 : BitVec 1 := Scalar.xori v1654 v1655
  let c0_i32_1224 : BitVec 32 := 0#32
  let v1653 : BitVec 1 := Scalar.cmpi .ne v1652 c0_i32_1224
  let v1657 : BitVec 1 := Scalar.andi v1656 v1653
  let v1658 : BitVec 32 := Scalar.addi v1652 v1651
  let v1659 : BitVec 32 := Scalar.select v1657 v1658 v1652
  let c1_i32_1229 : BitVec 32 := 1#32
  let v1660 : BitVec 32 := Scalar.muli v1659 c1_i32_1229
  let v1661 : BitVec 32 := Scalar.addi c0_i32_1230 v1660
  v1661.toNat
def k0_dev23 (d0 : Dev nD) : Nat :=
  let c0_i32_1343 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1333 : BitVec 32 := 22#32
  let v1799 : BitVec 32 := Scalar.addi v2 c22_i32_1333
  let c32_i32_1334 : BitVec 32 := 32#32
  let c0_i32_1335 : BitVec 32 := 0#32
  let v1800 : BitVec 1 := Scalar.cmpi .eq c32_i32_1334 c0_i32_1335
  let c1_i32_1336 : BitVec 32 := 1#32
  let v1801 : BitVec 32 := Scalar.select v1800 c1_i32_1336 c32_i32_1334
  let v1802 : BitVec 32 := Scalar.remsi v1799 v1801
  let c0_i32_1338 : BitVec 32 := 0#32
  let v1804 : BitVec 1 := Scalar.cmpi .slt v1802 c0_i32_1338
  let c0_i32_1339 : BitVec 32 := 0#32
  let v1805 : BitVec 1 := Scalar.cmpi .slt v1801 c0_i32_1339
  let v1806 : BitVec 1 := Scalar.xori v1804 v1805
  let c0_i32_1337 : BitVec 32 := 0#32
  let v1803 : BitVec 1 := Scalar.cmpi .ne v1802 c0_i32_1337
  let v1807 : BitVec 1 := Scalar.andi v1806 v1803
  let v1808 : BitVec 32 := Scalar.addi v1802 v1801
  let v1809 : BitVec 32 := Scalar.select v1807 v1808 v1802
  let c1_i32_1342 : BitVec 32 := 1#32
  let v1810 : BitVec 32 := Scalar.muli v1809 c1_i32_1342
  let v1811 : BitVec 32 := Scalar.addi c0_i32_1343 v1810
  v1811.toNat
def k0_dev24 (d0 : Dev nD) : Nat :=
  let c0_i32_1360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1350 : BitVec 32 := 23#32
  let v1825 : BitVec 32 := Scalar.addi v2 c23_i32_1350
  let c32_i32_1351 : BitVec 32 := 32#32
  let c0_i32_1352 : BitVec 32 := 0#32
  let v1826 : BitVec 1 := Scalar.cmpi .eq c32_i32_1351 c0_i32_1352
  let c1_i32_1353 : BitVec 32 := 1#32
  let v1827 : BitVec 32 := Scalar.select v1826 c1_i32_1353 c32_i32_1351
  let v1828 : BitVec 32 := Scalar.remsi v1825 v1827
  let c0_i32_1355 : BitVec 32 := 0#32
  let v1830 : BitVec 1 := Scalar.cmpi .slt v1828 c0_i32_1355
  let c0_i32_1356 : BitVec 32 := 0#32
  let v1831 : BitVec 1 := Scalar.cmpi .slt v1827 c0_i32_1356
  let v1832 : BitVec 1 := Scalar.xori v1830 v1831
  let c0_i32_1354 : BitVec 32 := 0#32
  let v1829 : BitVec 1 := Scalar.cmpi .ne v1828 c0_i32_1354
  let v1833 : BitVec 1 := Scalar.andi v1832 v1829
  let v1834 : BitVec 32 := Scalar.addi v1828 v1827
  let v1835 : BitVec 32 := Scalar.select v1833 v1834 v1828
  let c1_i32_1359 : BitVec 32 := 1#32
  let v1836 : BitVec 32 := Scalar.muli v1835 c1_i32_1359
  let v1837 : BitVec 32 := Scalar.addi c0_i32_1360 v1836
  v1837.toNat
def k0_dev25 (d0 : Dev nD) : Nat :=
  let c0_i32_1473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1463 : BitVec 32 := 24#32
  let v1975 : BitVec 32 := Scalar.addi v2 c24_i32_1463
  let c32_i32_1464 : BitVec 32 := 32#32
  let c0_i32_1465 : BitVec 32 := 0#32
  let v1976 : BitVec 1 := Scalar.cmpi .eq c32_i32_1464 c0_i32_1465
  let c1_i32_1466 : BitVec 32 := 1#32
  let v1977 : BitVec 32 := Scalar.select v1976 c1_i32_1466 c32_i32_1464
  let v1978 : BitVec 32 := Scalar.remsi v1975 v1977
  let c0_i32_1468 : BitVec 32 := 0#32
  let v1980 : BitVec 1 := Scalar.cmpi .slt v1978 c0_i32_1468
  let c0_i32_1469 : BitVec 32 := 0#32
  let v1981 : BitVec 1 := Scalar.cmpi .slt v1977 c0_i32_1469
  let v1982 : BitVec 1 := Scalar.xori v1980 v1981
  let c0_i32_1467 : BitVec 32 := 0#32
  let v1979 : BitVec 1 := Scalar.cmpi .ne v1978 c0_i32_1467
  let v1983 : BitVec 1 := Scalar.andi v1982 v1979
  let v1984 : BitVec 32 := Scalar.addi v1978 v1977
  let v1985 : BitVec 32 := Scalar.select v1983 v1984 v1978
  let c1_i32_1472 : BitVec 32 := 1#32
  let v1986 : BitVec 32 := Scalar.muli v1985 c1_i32_1472
  let v1987 : BitVec 32 := Scalar.addi c0_i32_1473 v1986
  v1987.toNat
def k0_dev26 (d0 : Dev nD) : Nat :=
  let c0_i32_1490 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1480 : BitVec 32 := 25#32
  let v2001 : BitVec 32 := Scalar.addi v2 c25_i32_1480
  let c32_i32_1481 : BitVec 32 := 32#32
  let c0_i32_1482 : BitVec 32 := 0#32
  let v2002 : BitVec 1 := Scalar.cmpi .eq c32_i32_1481 c0_i32_1482
  let c1_i32_1483 : BitVec 32 := 1#32
  let v2003 : BitVec 32 := Scalar.select v2002 c1_i32_1483 c32_i32_1481
  let v2004 : BitVec 32 := Scalar.remsi v2001 v2003
  let c0_i32_1485 : BitVec 32 := 0#32
  let v2006 : BitVec 1 := Scalar.cmpi .slt v2004 c0_i32_1485
  let c0_i32_1486 : BitVec 32 := 0#32
  let v2007 : BitVec 1 := Scalar.cmpi .slt v2003 c0_i32_1486
  let v2008 : BitVec 1 := Scalar.xori v2006 v2007
  let c0_i32_1484 : BitVec 32 := 0#32
  let v2005 : BitVec 1 := Scalar.cmpi .ne v2004 c0_i32_1484
  let v2009 : BitVec 1 := Scalar.andi v2008 v2005
  let v2010 : BitVec 32 := Scalar.addi v2004 v2003
  let v2011 : BitVec 32 := Scalar.select v2009 v2010 v2004
  let c1_i32_1489 : BitVec 32 := 1#32
  let v2012 : BitVec 32 := Scalar.muli v2011 c1_i32_1489
  let v2013 : BitVec 32 := Scalar.addi c0_i32_1490 v2012
  v2013.toNat
def k0_dev27 (d0 : Dev nD) : Nat :=
  let c0_i32_1603 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1593 : BitVec 32 := 26#32
  let v2151 : BitVec 32 := Scalar.addi v2 c26_i32_1593
  let c32_i32_1594 : BitVec 32 := 32#32
  let c0_i32_1595 : BitVec 32 := 0#32
  let v2152 : BitVec 1 := Scalar.cmpi .eq c32_i32_1594 c0_i32_1595
  let c1_i32_1596 : BitVec 32 := 1#32
  let v2153 : BitVec 32 := Scalar.select v2152 c1_i32_1596 c32_i32_1594
  let v2154 : BitVec 32 := Scalar.remsi v2151 v2153
  let c0_i32_1598 : BitVec 32 := 0#32
  let v2156 : BitVec 1 := Scalar.cmpi .slt v2154 c0_i32_1598
  let c0_i32_1599 : BitVec 32 := 0#32
  let v2157 : BitVec 1 := Scalar.cmpi .slt v2153 c0_i32_1599
  let v2158 : BitVec 1 := Scalar.xori v2156 v2157
  let c0_i32_1597 : BitVec 32 := 0#32
  let v2155 : BitVec 1 := Scalar.cmpi .ne v2154 c0_i32_1597
  let v2159 : BitVec 1 := Scalar.andi v2158 v2155
  let v2160 : BitVec 32 := Scalar.addi v2154 v2153
  let v2161 : BitVec 32 := Scalar.select v2159 v2160 v2154
  let c1_i32_1602 : BitVec 32 := 1#32
  let v2162 : BitVec 32 := Scalar.muli v2161 c1_i32_1602
  let v2163 : BitVec 32 := Scalar.addi c0_i32_1603 v2162
  v2163.toNat
def k0_dev28 (d0 : Dev nD) : Nat :=
  let c0_i32_1620 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1610 : BitVec 32 := 27#32
  let v2177 : BitVec 32 := Scalar.addi v2 c27_i32_1610
  let c32_i32_1611 : BitVec 32 := 32#32
  let c0_i32_1612 : BitVec 32 := 0#32
  let v2178 : BitVec 1 := Scalar.cmpi .eq c32_i32_1611 c0_i32_1612
  let c1_i32_1613 : BitVec 32 := 1#32
  let v2179 : BitVec 32 := Scalar.select v2178 c1_i32_1613 c32_i32_1611
  let v2180 : BitVec 32 := Scalar.remsi v2177 v2179
  let c0_i32_1615 : BitVec 32 := 0#32
  let v2182 : BitVec 1 := Scalar.cmpi .slt v2180 c0_i32_1615
  let c0_i32_1616 : BitVec 32 := 0#32
  let v2183 : BitVec 1 := Scalar.cmpi .slt v2179 c0_i32_1616
  let v2184 : BitVec 1 := Scalar.xori v2182 v2183
  let c0_i32_1614 : BitVec 32 := 0#32
  let v2181 : BitVec 1 := Scalar.cmpi .ne v2180 c0_i32_1614
  let v2185 : BitVec 1 := Scalar.andi v2184 v2181
  let v2186 : BitVec 32 := Scalar.addi v2180 v2179
  let v2187 : BitVec 32 := Scalar.select v2185 v2186 v2180
  let c1_i32_1619 : BitVec 32 := 1#32
  let v2188 : BitVec 32 := Scalar.muli v2187 c1_i32_1619
  let v2189 : BitVec 32 := Scalar.addi c0_i32_1620 v2188
  v2189.toNat
def k0_dev29 (d0 : Dev nD) : Nat :=
  let c0_i32_1734 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1724 : BitVec 32 := 28#32
  let v2327 : BitVec 32 := Scalar.addi v2 c28_i32_1724
  let c32_i32_1725 : BitVec 32 := 32#32
  let c0_i32_1726 : BitVec 32 := 0#32
  let v2328 : BitVec 1 := Scalar.cmpi .eq c32_i32_1725 c0_i32_1726
  let c1_i32_1727 : BitVec 32 := 1#32
  let v2329 : BitVec 32 := Scalar.select v2328 c1_i32_1727 c32_i32_1725
  let v2330 : BitVec 32 := Scalar.remsi v2327 v2329
  let c0_i32_1729 : BitVec 32 := 0#32
  let v2332 : BitVec 1 := Scalar.cmpi .slt v2330 c0_i32_1729
  let c0_i32_1730 : BitVec 32 := 0#32
  let v2333 : BitVec 1 := Scalar.cmpi .slt v2329 c0_i32_1730
  let v2334 : BitVec 1 := Scalar.xori v2332 v2333
  let c0_i32_1728 : BitVec 32 := 0#32
  let v2331 : BitVec 1 := Scalar.cmpi .ne v2330 c0_i32_1728
  let v2335 : BitVec 1 := Scalar.andi v2334 v2331
  let v2336 : BitVec 32 := Scalar.addi v2330 v2329
  let v2337 : BitVec 32 := Scalar.select v2335 v2336 v2330
  let c1_i32_1733 : BitVec 32 := 1#32
  let v2338 : BitVec 32 := Scalar.muli v2337 c1_i32_1733
  let v2339 : BitVec 32 := Scalar.addi c0_i32_1734 v2338
  v2339.toNat
def k0_dev30 (d0 : Dev nD) : Nat :=
  let c0_i32_1751 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1741 : BitVec 32 := 29#32
  let v2353 : BitVec 32 := Scalar.addi v2 c29_i32_1741
  let c32_i32_1742 : BitVec 32 := 32#32
  let c0_i32_1743 : BitVec 32 := 0#32
  let v2354 : BitVec 1 := Scalar.cmpi .eq c32_i32_1742 c0_i32_1743
  let c1_i32_1744 : BitVec 32 := 1#32
  let v2355 : BitVec 32 := Scalar.select v2354 c1_i32_1744 c32_i32_1742
  let v2356 : BitVec 32 := Scalar.remsi v2353 v2355
  let c0_i32_1746 : BitVec 32 := 0#32
  let v2358 : BitVec 1 := Scalar.cmpi .slt v2356 c0_i32_1746
  let c0_i32_1747 : BitVec 32 := 0#32
  let v2359 : BitVec 1 := Scalar.cmpi .slt v2355 c0_i32_1747
  let v2360 : BitVec 1 := Scalar.xori v2358 v2359
  let c0_i32_1745 : BitVec 32 := 0#32
  let v2357 : BitVec 1 := Scalar.cmpi .ne v2356 c0_i32_1745
  let v2361 : BitVec 1 := Scalar.andi v2360 v2357
  let v2362 : BitVec 32 := Scalar.addi v2356 v2355
  let v2363 : BitVec 32 := Scalar.select v2361 v2362 v2356
  let c1_i32_1750 : BitVec 32 := 1#32
  let v2364 : BitVec 32 := Scalar.muli v2363 c1_i32_1750
  let v2365 : BitVec 32 := Scalar.addi c0_i32_1751 v2364
  v2365.toNat
def k0_dev31 (d0 : Dev nD) : Nat :=
  let c0_i32_1838 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1828 : BitVec 32 := 30#32
  let v2469 : BitVec 32 := Scalar.addi v2 c30_i32_1828
  let c32_i32_1829 : BitVec 32 := 32#32
  let c0_i32_1830 : BitVec 32 := 0#32
  let v2470 : BitVec 1 := Scalar.cmpi .eq c32_i32_1829 c0_i32_1830
  let c1_i32_1831 : BitVec 32 := 1#32
  let v2471 : BitVec 32 := Scalar.select v2470 c1_i32_1831 c32_i32_1829
  let v2472 : BitVec 32 := Scalar.remsi v2469 v2471
  let c0_i32_1833 : BitVec 32 := 0#32
  let v2474 : BitVec 1 := Scalar.cmpi .slt v2472 c0_i32_1833
  let c0_i32_1834 : BitVec 32 := 0#32
  let v2475 : BitVec 1 := Scalar.cmpi .slt v2471 c0_i32_1834
  let v2476 : BitVec 1 := Scalar.xori v2474 v2475
  let c0_i32_1832 : BitVec 32 := 0#32
  let v2473 : BitVec 1 := Scalar.cmpi .ne v2472 c0_i32_1832
  let v2477 : BitVec 1 := Scalar.andi v2476 v2473
  let v2478 : BitVec 32 := Scalar.addi v2472 v2471
  let v2479 : BitVec 32 := Scalar.select v2477 v2478 v2472
  let c1_i32_1837 : BitVec 32 := 1#32
  let v2480 : BitVec 32 := Scalar.muli v2479 c1_i32_1837
  let v2481 : BitVec 32 := Scalar.addi c0_i32_1838 v2480
  v2481.toNat
def k0_dev32 (d0 : Dev nD) : Nat :=
  let c0_i32_1855 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1845 : BitVec 32 := 31#32
  let v2495 : BitVec 32 := Scalar.addi v2 c31_i32_1845
  let c32_i32_1846 : BitVec 32 := 32#32
  let c0_i32_1847 : BitVec 32 := 0#32
  let v2496 : BitVec 1 := Scalar.cmpi .eq c32_i32_1846 c0_i32_1847
  let c1_i32_1848 : BitVec 32 := 1#32
  let v2497 : BitVec 32 := Scalar.select v2496 c1_i32_1848 c32_i32_1846
  let v2498 : BitVec 32 := Scalar.remsi v2495 v2497
  let c0_i32_1850 : BitVec 32 := 0#32
  let v2500 : BitVec 1 := Scalar.cmpi .slt v2498 c0_i32_1850
  let c0_i32_1851 : BitVec 32 := 0#32
  let v2501 : BitVec 1 := Scalar.cmpi .slt v2497 c0_i32_1851
  let v2502 : BitVec 1 := Scalar.xori v2500 v2501
  let c0_i32_1849 : BitVec 32 := 0#32
  let v2499 : BitVec 1 := Scalar.cmpi .ne v2498 c0_i32_1849
  let v2503 : BitVec 1 := Scalar.andi v2502 v2499
  let v2504 : BitVec 32 := Scalar.addi v2498 v2497
  let v2505 : BitVec 32 := Scalar.select v2503 v2504 v2498
  let c1_i32_1854 : BitVec 32 := 1#32
  let v2506 : BitVec 32 := Scalar.muli v2505 c1_i32_1854
  let v2507 : BitVec 32 := Scalar.addi c0_i32_1855 v2506
  v2507.toNat
abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Run.KernelIdeal.Base.lean ====
/-
The exchange's vocabulary on one device `c` of the 32: the buffers, the cells, what each buffer is to hold, and the
schedule of the cells under the rounds library — the barrier cell's 31 units (each handing over the payer's landing
slot), a send cell's and a receive cell's one landing each — with the levels and what a device owes.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Transfers
public import Idealize.ShloMosaic.Lib.ValueIdxCore

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]

/-! ## The resource algebra: the pipeline's rounds, the exchange's rounds, the local transfers' counters -/

abbrev UB : Type := URounds (GSem nD τ sig) (Fin 32)
abbrev UU : Type := UR sig nD τ × (UB × Counters)

local notation "𝕄" => MT nD τ sig Unit (Elt F) ℕ UU ℕ

abbrev EP : Emb (UR sig nD τ) (MT nD τ sig Unit (Elt F) ℕ UU ℕ) := embL
/-- The exchange's rounds library: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
omit [FloatOps F] in
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

abbrev xM : Memref sig .tc .vmem S128x4096 .f32 := Memref.whole cc0_stg0_0
abbrev wM : Memref sig .tc .hbm S4096x8192 .f32 := Memref.whole main_arg1
abbrev oM : Memref sig .tc .vmem S4096x256 .f32 := Memref.whole cc0_stg1_0
abbrev bM : Memref sig .tc .vmem S2x4096x512 .f32 := Memref.whole cc0_scratch0
abbrev sM : Memref sig .tc .vmem S32x128x256 .bf16 := Memref.whole cc0_scratch1
abbrev iM : Memref sig .tc .vmem S32x128x256 .bf16 := Memref.whole cc0_scratch2

abbrev xLoc (c : Dev nD) : Loc nD τ sig := (c : Thread nD τ).loc cc0_stg0_0
abbrev wLoc (c : Dev nD) : Loc nD τ sig := (c : Thread nD τ).loc main_arg1
abbrev oLoc (c : Dev nD) : Loc nD τ sig := (c : Thread nD τ).loc cc0_stg1_0
abbrev bLoc (c : Dev nD) : Loc nD τ sig := (c : Thread nD τ).loc cc0_scratch0
abbrev sLoc (c : Dev nD) : Loc nD τ sig := (c : Thread nD τ).loc cc0_scratch1
abbrev iLoc (c : Dev nD) : Loc nD τ sig := (c : Thread nD τ).loc cc0_scratch2

/-! ### Their parts: a slot of the stage or the inbox, a column block of `w`, a quarter of the fetch buffer, a row block
of the result -/

set_option backward.proofsInPublic true
theorem slot_inb (d : Fin 32) : ∀ a, (![d.val, 0, 0] : Fin 3 → Nat) a + S1x128x256.size a ≤ S32x128x256.size a := by
  revert d; decide
theorem wcol_inb (j : Fin 32) : ∀ a, (![0, 256 * j.val] : Fin 2 → Nat) a + S4096x256.size a ≤ S4096x8192.size a := by
  revert j; decide
theorem rows_inb (s : Fin 32) : ∀ a, (![128 * s.val, 0] : Fin 2 → Nat) a + S128x256.size a ≤ S4096x256.size a := by
  revert s; decide
theorem quarter_inb (i : Fin 4) :
    ∀ a, (![i.val / 2, 0, 256 * (i.val % 2)] : Fin 3 → Nat) a + S1x4096x256.size a ≤ S2x4096x512.size a := by
  revert i; decide
theorem half_inb (i : Fin 2) : ∀ a, (![i.val, 0, 0] : Fin 3 → Nat) a + S1x4096x512.size a ≤ S2x4096x512.size a := by
  revert i; decide

abbrev slotR (d : Fin 32) : Rect S32x128x256 := Rect.unit (s := S32x128x256) ![d.val, 0, 0] S1x128x256.size (slot_inb d)
abbrev wcolR (j : Fin 32) : Rect S4096x8192 := Rect.unit (s := S4096x8192) ![0, 256 * j.val] S4096x256.size (wcol_inb j)
abbrev rowsR (s : Fin 32) : Rect S4096x256 := Rect.unit (s := S4096x256) ![128 * s.val, 0] S128x256.size (rows_inb s)
abbrev quarterR (i : Fin 4) : Rect S2x4096x512 :=
  Rect.unit (s := S2x4096x512) ![i.val / 2, 0, 256 * (i.val % 2)] S1x4096x256.size (quarter_inb i)
abbrev halfR (i : Fin 2) : Rect S2x4096x512 := Rect.unit (s := S2x4096x512) ![i.val, 0, 0] S1x4096x512.size (half_inb i)

/-! ## The cells -/

/-- The runtime's barrier semaphore of collective id 0. -/
abbrev barS : Sem sig := (SemArray.scalar (sig.barrier 0 rfl) : Sems sig S_).sem
theorem fetchS_lt (i : Fin 4) : 2 + i.val < sig.nDmaSem := by revert i; decide
theorem sendS_lt (d : Fin 32) : 6 + d.val < sig.nDmaSem := by revert d; decide
theorem recvS_lt (s : Fin 32) : 38 + s.val < sig.nDmaSem := by revert s; decide
/-- The semaphores of the four quarters' fetches, of the 32 sends and of the 32 receives. -/
def fetchS (i : Fin 4) : DmaSem sig := ⟨2 + i.val, fetchS_lt i⟩
def sendS (d : Fin 32) : DmaSem sig := ⟨6 + d.val, sendS_lt d⟩
def recvS (s : Fin 32) : DmaSem sig := ⟨38 + s.val, recvS_lt s⟩

abbrev barCell (c : Dev nD) : GSem nD τ sig := ((c : Thread nD τ), .reg barS)
abbrev sendCell (c : Dev nD) (d : Fin 32) : GSem nD τ sig := ((c : Thread nD τ), .dma (sendS d))
abbrev recvCell (c : Dev nD) (s : Fin 32) : GSem nD τ sig := ((c : Thread nD τ), .dma (recvS s))
abbrev fetchCell (c : Dev nD) (i : Fin 4) : GSem nD τ sig := ((c : Thread nD τ), .dma (fetchS i))

/-- A device's cells under the rounds library: its barrier cell, its send cells, its receive cells. -/
abbrev KC : Type := Option (Bool × Fin 32)
abbrev csem : KC → SemLoc sig
  | none => .reg barS
  | some (false, d) => .dma (sendS d)
  | some (true, s) => .dma (recvS s)
abbrev kcell (ck : Dev nD × KC) : GSem nD τ sig := ((ck.1 : Thread nD τ), csem ck.2)

/-- The credit of one slot's transfer and of one quarter's. -/
abbrev N : ℕ := (((sM).slice (slotR 0) (fun _ => rfl)).squeeze S128x256 squeezes_S1x128x256_S128x256).view.dmaCredit
abbrev NW : ℕ := (((bM).slice (quarterR 0) (fun _ => rfl)).squeeze S4096x256 squeezes_S1x4096x256_S4096x256).view.dmaCredit
theorem N_pos : 0 < N := View.dmaCredit_pos _ (by decide)
theorem NW_pos : 0 < NW := View.dmaCredit_pos _ (by decide)

/-! ## What the buffers hold -/

/-- The `x` block a device is handed, staged. -/
def xstg (c : Dev nD) : (cc0_stg0_0 : Ref sig .tc).ty.Contents (Elt F) :=
  (win0_0.blk (0 : Fin 1)).view.read (Elt F) ((s₀ m ρ).mem ((c : Thread nD τ).loc main_arg0))
/-- The whole of `w`, as device `c` holds it. -/
abbrev wAt (c : Dev nD) : Buf (Elt F) (wLoc c) := m (wLoc c)
/-- The `x` block in the product's format. -/
def xv (c : Dev nD) : FVec F S128x4096 .bf16 := k0_pay1 (xstg m ρ c)
/-- The column of `w` that column `v` of phase `p`'s slot holds on device `c`. -/
def wcol (c : Dev nD) (p : Fin 16) (v : Fin 512) : Fin 8192 :=
  ⟨256 * ((c.val + 2 * p.val + v.val / 256) % 32) + v.val % 256, by
    have h1 := Nat.mod_lt (c.val + 2 * p.val + v.val / 256) (y := 32) (by omega)
    have h2 := Nat.mod_lt v.val (y := 256) (by omega)
    omega⟩
/-- Phase `p`'s two column blocks of `w` side by side. -/
def wslot (c : Dev nD) (p : Fin 16) : Vec F S1x4096x512 .f32 := fun z =>
  wAt m c (ix2 (z 1) (wcol c p (z 2)))
/-- The fetch buffer, were both halves to hold phase `p`'s columns. -/
def bufAt (c : Dev nD) (p : Fin 16) : Buf (Elt F) (bLoc c) := fun z => wslot m c p (ix3 0 (z 1) (z 2))
/-- The block product of phase `p`. -/
def prod (c : Dev nD) (p : Fin 16) : FVec F S128x512 .f32 := k0_pay5 (xv m ρ c) (wslot m c p)
/-- The phase of distance `d`. -/
def phase (d : Fin 32) : Fin 16 := ⟨d.val / 2, by have := d.isLt; omega⟩
/-- What device `c` stages for the device at distance `d`. -/
def stageV (c : Dev nD) (d : Fin 32) : FVec F S1x128x256 .bf16 :=
  if d.val % 2 = 0 then k0_pay6 (xv m ρ c) (wslot m c (phase d)) else k0_pay7 (prod m ρ c (phase d))
def stageAt (c : Dev nD) : Buf (Elt F) (sLoc c) := fun z => stageV m ρ c (z 0) (ix3 0 (z 1) (z 2))
/-- What lands in slot `s` of device `c`'s inbox: device `s`'s piece at the distance from `s` to `c`. -/
def inboxV (c : Dev nD) (s : Fin 32) : FVec F S1x128x256 .bf16 := stageV m ρ s (c - s)
def inboxAt (c : Dev nD) : Buf (Elt F) (iLoc c) := fun z => inboxV m ρ c (z 0) (ix3 0 (z 1) (z 2))
/-- Row block `s` of device `c`'s result: its own piece, or what device `s` sent. -/
def outV (c : Dev nD) (s : Fin 32) : FVec F S128x256 .f32 :=
  if s = c then k0_pay3 (xv m ρ c) (wslot m c 0) else k0_pay17 (inboxV m ρ c s)
def outAt (c : Dev nD) : (cc0_stg1_0 : Ref sig .tc).ty.Contents (Elt F) := fun z =>
  outV m ρ c ⟨(z 0).val / 128, by have : (z 0).val < 4096 := (z 0).isLt; omega⟩
    (ix2 ⟨(z 0).val % 128, Nat.mod_lt _ (by omega)⟩ (z 1))

/-! ## The schedule -/

/-- The number of a slot, from a semaphore's. -/
def slotOf (n : ℕ) : Fin 32 := ⟨n % 32, Nat.mod_lt _ (by omega)⟩

/-- What device `p`'s unit hands device `c`: slot `c` of `p`'s inbox, at round 0 of its receive cell. -/
def barPay (c : Dev nD) (p : Fin 32) : sProp 𝕄 :=
  iprop((∃ f, iLoc p ↦[(slotR c).set]{fullShare} f) ∗ reached ER (recvCell p c) 0)
def sendPay (c : Dev nD) (d : Fin 32) : sProp 𝕄 := iprop(∃ f, sLoc c ↦[(slotR d).set]{fullShare} f)
def recvPay (c : Dev nD) (s : Fin 32) : sProp 𝕄 := iprop(iLoc c ↦[(slotR s).set]{fullShare} inboxAt m ρ c)

def exRd : Rounds.Schedule (GSem nD τ sig) (Fin 32) 𝕄 where
  duties g r := if r = 0 ∧ g.1.2 = .tc then
      (match g.2 with
       | .reg s => if s = barS then Finset.univ.erase g.1.1 else ∅
       | .dma q => if 6 < q.val ∧ q.val < 38 then {0} else if 38 ≤ q.val ∧ q.val ≠ 38 + g.1.1.val then {0} else ∅)
    else ∅
  unitless _ := False
  amount g _ _ := match g.2 with
    | .reg _ => 1
    | .dma _ => N
  payload g _ d := match g.2 with
    | .reg _ => barPay g.1.1 d
    | .dma q => if q.val < 38 then sendPay g.1.1 (slotOf (q.val - 6)) else recvPay m ρ g.1.1 (slotOf (q.val - 38))
  amount_pos g _ _ _ := by
    rcases g with ⟨t, sm⟩
    cases sm with
    | reg s => exact Nat.one_pos
    | dma q => exact N_pos

instance exRd_payload_storable (g : GSem nD τ sig) (r : ℕ) (d : Fin 32) :
    BI.Storable (upEmb : UEmb _ 𝕄) ((exRd (F := F) m ρ).payload g r d) := by
  rcases g with ⟨t, sm⟩
  cases sm with
  | reg s => show BI.Storable upEmb (barPay (F := F) t.1 d); unfold barPay; infer_instance
  | dma q =>
    show BI.Storable upEmb (if q.val < 38 then sendPay (F := F) t.1 (slotOf (q.val - 6)) else recvPay m ρ t.1 (slotOf (q.val - 38)))
    unfold sendPay recvPay
    split <;> infer_instance

section Sched
variable (c : Dev nD)

theorem slotOf_add (k : ℕ) (d : Fin 32) : slotOf (k + d.val - k) = d := by
  have := d.isLt; apply Fin.ext; simp only [slotOf]; omega

theorem duties_bar : (exRd (F := F) m ρ).duties (barCell c) 0 = Finset.univ.erase c := by
  dsimp only [exRd]; rw [if_pos ⟨rfl, rfl⟩]; exact if_pos rfl
theorem duties_send (d : Fin 32) (hd : d ≠ 0) : (exRd (F := F) m ρ).duties (sendCell c d) 0 = {0} := by
  have h : 0 < d.val := Nat.pos_of_ne_zero fun h => hd (Fin.ext h)
  dsimp only [exRd]; rw [if_pos ⟨rfl, rfl⟩]; exact if_pos ⟨by show 6 < 6 + d.val; omega, by show 6 + d.val < 38; omega⟩
theorem duties_recv (s : Fin 32) (hs : s ≠ c) : (exRd (F := F) m ρ).duties (recvCell c s) 0 = {0} := by
  have h : s.val ≠ c.val := fun h => hs (Fin.ext h)
  dsimp only [exRd]; rw [if_pos ⟨rfl, rfl⟩]
  refine (if_neg ?_).trans (if_pos ⟨?_, ?_⟩)
  · rintro ⟨-, h'⟩; change 38 + s.val < 38 at h'; omega
  · show 38 ≤ 38 + s.val; omega
  · show 38 + s.val ≠ 38 + c.val; omega
theorem duties_later (g : GSem nD τ sig) : ∀ r, 1 ≤ r → (exRd (F := F) m ρ).duties g r = ∅ :=
  fun r hr => by dsimp only [exRd]; rw [if_neg fun h => by omega]
theorem duties_send0 : ∀ r, 0 ≤ r → (exRd (F := F) m ρ).duties (sendCell c 0) r = ∅ := fun r _ => by
  rcases Nat.eq_zero_or_pos r with rfl | h
  · dsimp only [exRd]; rw [if_pos ⟨rfl, rfl⟩]
    refine (if_neg ?_).trans (if_neg ?_)
    · rintro ⟨h, -⟩; exact absurd h (by decide)
    · rintro ⟨h, -⟩; exact absurd h (by decide)
  · exact duties_later m ρ _ r h
theorem duties_recv0 : ∀ r, 0 ≤ r → (exRd (F := F) m ρ).duties (recvCell c c) r = ∅ := fun r _ => by
  rcases Nat.eq_zero_or_pos r with rfl | h
  · dsimp only [exRd]; rw [if_pos ⟨rfl, rfl⟩]
    refine (if_neg ?_).trans (if_neg ?_)
    · rintro ⟨-, h⟩; change 38 + c.val < 38 at h; omega
    · rintro ⟨-, h⟩; exact h rfl
  · exact duties_later m ρ _ r h

theorem amount_bar (d : Fin 32) : (exRd (F := F) m ρ).amount (barCell c) 0 d = 1 := rfl
theorem amount_send (d e : Fin 32) : (exRd (F := F) m ρ).amount (sendCell c d) 0 e = N := rfl
theorem amount_recv (s e : Fin 32) : (exRd (F := F) m ρ).amount (recvCell c s) 0 e = N := rfl

theorem expect_bar : (exRd (F := F) m ρ).expect (barCell c) 0 = 31 := by
  unfold Schedule.expect Schedule.amountOf
  rw [duties_bar, Finset.sum_congr rfl fun d _ => amount_bar m ρ c d, Finset.sum_const, Finset.card_erase_of_mem (Finset.mem_univ _),
    Finset.card_univ, Fintype.card_fin, smul_eq_mul]
theorem expect_send (d : Fin 32) (hd : d ≠ 0) : (exRd (F := F) m ρ).expect (sendCell c d) 0 = N := by
  unfold Schedule.expect Schedule.amountOf; rw [duties_send m ρ c d hd, Finset.sum_singleton, amount_send]
theorem expect_recv (s : Fin 32) (hs : s ≠ c) : (exRd (F := F) m ρ).expect (recvCell c s) 0 = N := by
  unfold Schedule.expect Schedule.amountOf; rw [duties_recv m ρ c s hs, Finset.sum_singleton, amount_recv]

theorem payload_bar (p : Fin 32) : (exRd (F := F) m ρ).payload (barCell c) 0 p = barPay c p := rfl
theorem payload_send (d e : Fin 32) : (exRd (F := F) m ρ).payload (sendCell c d) 0 e = sendPay c d := by
  have hd := d.isLt
  dsimp only [exRd]
  rw [if_pos (by show 6 + d.val < 38; omega)]
  show sendPay c (slotOf (6 + d.val - 6)) = _
  rw [slotOf_add]
theorem payload_recv (s e : Fin 32) : (exRd (F := F) m ρ).payload (recvCell c s) 0 e = recvPay m ρ c s := by
  dsimp only [exRd]
  rw [if_neg (by show ¬ 38 + s.val < 38; omega)]
  show recvPay m ρ c (slotOf (38 + s.val - 38)) = _
  rw [slotOf_add]

theorem rest_bar : bigSep ((exRd (F := F) m ρ).duties (barCell c) 0 \ ∅) (fun d => (exRd (F := F) m ρ).payload (barCell c) 0 d)
    = bigSep (Finset.univ.erase c) (fun p => barPay (F := F) c p) := by
  rw [Finset.sdiff_empty, duties_bar]; rfl
theorem rest_send (d : Fin 32) (hd : d ≠ 0) :
    bigSep ((exRd (F := F) m ρ).duties (sendCell c d) 0 \ ∅) (fun e => (exRd (F := F) m ρ).payload (sendCell c d) 0 e) = sendPay c d := by
  rw [Finset.sdiff_empty, duties_send m ρ c d hd]; exact bigSep_singleton.trans (payload_send m ρ c d 0)
theorem rest_recv (s : Fin 32) (hs : s ≠ c) :
    bigSep ((exRd (F := F) m ρ).duties (recvCell c s) 0 \ ∅) (fun e => (exRd (F := F) m ρ).payload (recvCell c s) 0 e) = recvPay m ρ c s := by
  rw [Finset.sdiff_empty, duties_recv m ρ c s hs]; exact bigSep_singleton.trans (payload_recv m ρ c s 0)

end Sched

/-! ## What a device owes, and the levels -/

/-- The distances other than 0. -/
abbrev D1 : Finset (Fin 32) := Finset.univ.erase 0
/-- The receive credits a device still owes with the sends below distance `k` made; the barrier units it still owes with
    those below `k` paid. -/
def OR (c : Dev nD) (k : ℕ) : CellTallies nD τ sig Unit :=
  ∑ d ∈ D1.filter (fun d => k ≤ d.val), tallyAt (recvCell (c + d) c) () N
def OB (c : Dev nD) (k : ℕ) : CellTallies nD τ sig Unit :=
  ∑ d ∈ D1.filter (fun d => k ≤ d.val), tallyAt (barCell (c + d)) () 1
def O₀ (c : Dev nD) : CellTallies nD τ sig Unit := OR c 1 + OB c 1

theorem filter_step (k : ℕ) (d : Fin 32) (hd : d ≠ 0) (hk : d.val = k) :
    D1.filter (fun e => k ≤ e.val) = insert d (D1.filter (fun e => k + 1 ≤ e.val)) := by
  ext e
  simp only [Finset.mem_filter, Finset.mem_insert, Finset.mem_erase, Finset.mem_univ, and_true]
  constructor
  · rintro ⟨h1, h2⟩
    by_cases h : e = d
    · exact .inl h
    · have : e.val ≠ d.val := fun h' => h (Fin.ext h')
      exact .inr ⟨h1, by omega⟩
  · rintro (rfl | ⟨h1, h2⟩)
    · exact ⟨hd, by omega⟩
    · exact ⟨h1, by omega⟩
theorem not_mem_step (k : ℕ) (d : Fin 32) (hk : d.val = k) : d ∉ D1.filter (fun e => k + 1 ≤ e.val) := by
  simp only [Finset.mem_filter, not_and]; intro _; omega
theorem OR_step (c : Dev nD) (k : ℕ) (d : Fin 32) (hd : d ≠ 0) (hk : d.val = k) :
    OR c k = OR c (k + 1) + tallyAt (recvCell (c + d) c) () N := by
  unfold OR; rw [filter_step k d hd hk, Finset.sum_insert (not_mem_step k d hk), add_comm]
theorem OB_step (c : Dev nD) (k : ℕ) (d : Fin 32) (hd : d ≠ 0) (hk : d.val = k) :
    OB c k = OB c (k + 1) + tallyAt (barCell (c + d)) () 1 := by
  unfold OB; rw [filter_step k d hd hk, Finset.sum_insert (not_mem_step k d hk), add_comm]
theorem filter_end : D1.filter (fun d => 32 ≤ d.val) = ∅ := by
  ext e; simp only [Finset.mem_filter, Finset.notMem_empty, iff_false, not_and]; intro _; have := e.isLt; omega
theorem OR_end (c : Dev nD) : OR c 32 = 0 := by unfold OR; rw [filter_end, Finset.sum_empty]
theorem OB_end (c : Dev nD) : OB c 32 = 0 := by unfold OB; rw [filter_end, Finset.sum_empty]

theorem sum_tally_pos {S : Finset (Fin 32)} {f : Fin 32 → GSem nD τ sig} {n : ℕ} {g : GSem nD τ sig} {u : Unit}
    (h : 0 < (∑ d ∈ S, (tallyAt (f d) () n : CellTallies nD τ sig Unit)) g u) : ∃ d ∈ S, g = f d := by
  by_contra hn
  simp only [not_exists, not_and] at hn
  rw [Finset.sum_apply, Finsupp.finset_sum_apply, Finset.sum_eq_zero] at h
  · exact Nat.lt_irrefl 0 h
  · intro d hd
    rw [tallyAt_apply, if_neg fun h' => hn d hd h'.1]

theorem OR_pos {c : Dev nD} {k : ℕ} {g : GSem nD τ sig} {u : Unit} (h : 0 < OR c k g u) :
    ∃ d : Fin 32, d ≠ 0 ∧ k ≤ d.val ∧ g = recvCell (c + d) c := by
  obtain ⟨d, hd, hg⟩ := sum_tally_pos h
  rw [Finset.mem_filter, Finset.mem_erase] at hd
  exact ⟨d, hd.1.1, hd.2, hg⟩
theorem OB_pos {c : Dev nD} {k : ℕ} {g : GSem nD τ sig} {u : Unit} (h : 0 < OB c k g u) :
    ∃ d : Fin 32, d ≠ 0 ∧ k ≤ d.val ∧ g = barCell (c + d) := by
  obtain ⟨d, hd, hg⟩ := sum_tally_pos h
  rw [Finset.mem_filter, Finset.mem_erase] at hd
  exact ⟨d, hd.1.1, hd.2, hg⟩

def L (g : GSem nD τ sig) : Finset Unit := if g.1.2 = .tc then {()} else ∅
/-- The barrier cells at 1; a receive cell at 2 and its distance from the sender; everything else at 0. -/
def lv (g : GSem nD τ sig) (_ : Unit) : ℕ := match g.2 with
  | .reg s => if s = barS then 1 else 0
  | .dma q => if 38 ≤ q.val then 2 + (g.1.1 - slotOf (q.val - 38)).val else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by
  show (if barS = barS then 1 else 0) = 1; exact if_pos rfl
theorem lv_recv (c : Dev nD) (s : Fin 32) : lv (recvCell c s) () = 2 + (c - s).val := by
  refine (if_pos (by show 38 ≤ 38 + s.val; omega)).trans ?_
  show 2 + (c - slotOf (38 + s.val - 38)).val = _
  rw [slotOf_add]
theorem lv_low (c : Dev nD) (q : DmaSem sig) (hq : q.val < 38) : lv ((c : Thread nD τ), .dma q) () = 0 := if_neg (by omega)
theorem add_sub_self (c d : Fin 32) : c + d - c = d := by revert c d; decide
theorem sub_sub_self (c d : Fin 32) : c - (c - d) = d := by revert c d; decide
theorem sub_add_self (c d : Fin 32) : c - d + d = c := by revert c d; decide
theorem sub_ne_self (c d : Fin 32) (hd : d ≠ 0) : c - d ≠ c := by revert c d; decide
theorem add_ne_self (c d : Fin 32) (hd : d ≠ 0) : c ≠ c + d := by revert c d; decide

omit [FloatOps F] in
/-- A wait at level `n` while what is owed lies above it. -/
theorem mayWait_cut (c : Dev nD) (sm : SemLoc sig) (O : CellTallies nD τ sig Unit) (n : ℕ) (hn : lv ((c : Thread nD τ), sm) () ≤ n)
    (hO : ∀ g u, 0 < O g u → g.1.2 = .tc ∧ n < lv g ()) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [L, if_pos (hO g u hg).1]; exact Finset.mem_singleton_self _)
    (fun p hp => by rw [Finset.mem_singleton.mp hp]; exact hn)
    (fun g u hg => (hO g u hg).2)

omit [FloatOps F] in
theorem mayWait_low (c : Dev nD) (q : DmaSem sig) (hq : q.val < 38) (k : ℕ) :
    (levAts L lv : sProp 𝕄) ⊢ MayWait (c : Thread nD τ) (.dma q) () (OR c k) :=
  mayWait_cut c _ _ 0 (lv_low c q hq).le fun g u hg => by
    obtain ⟨d, -, -, rfl⟩ := OR_pos hg
    exact ⟨rfl, by rw [lv_recv]; omega⟩
omit [FloatOps F] in
theorem mayWait_launch (c : Dev nD) (q : DmaSem sig) (hq : q.val < 38) :
    (levAts L lv : sProp 𝕄) ⊢ MayWait (c : Thread nD τ) (.dma q) () (O₀ c) :=
  mayWait_cut c _ _ 0 (lv_low c q hq).le fun g u hg => by
    unfold O₀ at hg
    rw [Pi.add_apply, Finsupp.add_apply] at hg
    rcases Nat.eq_zero_or_pos (OR c 1 g u) with h | h
    · obtain ⟨d, -, -, rfl⟩ := OB_pos (by omega : 0 < OB c 1 g u)
      exact ⟨rfl, by rw [lv_bar]; omega⟩
    · obtain ⟨d, -, -, rfl⟩ := OR_pos h
      exact ⟨rfl, by rw [lv_recv]; omega⟩
omit [FloatOps F] in
theorem mayWait_bar (c : Dev nD) (k : ℕ) : (levAts L lv : sProp 𝕄) ⊢ MayWait (c : Thread nD τ) (.reg barS) () (OR c k) :=
  mayWait_cut c _ _ 1 (lv_bar c).le fun g u hg => by
    obtain ⟨d, -, -, rfl⟩ := OR_pos hg
    exact ⟨rfl, by rw [lv_recv]; omega⟩
omit [FloatOps F] in
theorem mayWait_recv (c : Dev nD) (h : Fin 32) (k : ℕ) (hk : h.val < k) :
    (levAts L lv : sProp 𝕄) ⊢ MayWait (c : Thread nD τ) (.dma (recvS (c - h))) () (OR c k) :=
  mayWait_cut c _ _ (2 + h.val) (by rw [lv_recv, sub_sub_self]) fun g u hg => by
    obtain ⟨d, -, hd, rfl⟩ := OR_pos hg
    exact ⟨rfl, by rw [lv_recv, add_sub_self]; omega⟩

end Cert.KernelIdeal.Exchange
-- ==== Proof.Run.KernelIdeal.Geom.lean ====
/-
The views of the exchange's transfers and accesses: what each covers of its buffer, what a landing leaves there, and the
offsets and devices the body computes, in closed form.
-/
module

public import proofs.«01_k».proof.Proof.Run.KernelIdeal.Base
public import Idealize.ShloMosaic.Lib.ValueLayout

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

/-! ## The offsets and the devices, in closed form -/

/-- The quarter the `n`-th fetch lands in. -/
def qtr (n : ℕ) : Fin 4 := ⟨n % 4, Nat.mod_lt _ (by omega)⟩

theorem off1_tab : ∀ (c : Dev nD) (n : Fin 32), k0_off1 c (BitVec.ofNat 32 n.val) = ![0, 256 * (c + n).val] := by decide +kernel
theorem off5_tab : ∀ (c : Dev nD) (h : Fin 32), k0_off5 c (BitVec.ofNat 32 h.val) = ![(c - h).val] := by decide +kernel
theorem off6_tab : ∀ (c : Dev nD) (h : Fin 32), k0_off6 c (BitVec.ofNat 32 h.val) = ![(c - h).val, 0, 0] := by decide +kernel
theorem off7_tab : ∀ (c : Dev nD) (h : Fin 32), k0_off7 c (BitVec.ofNat 32 h.val) = ![(c - h).val, 0, 0] := by decide +kernel
theorem off8_tab : ∀ (c : Dev nD) (h : Fin 32), k0_off8 c (BitVec.ofNat 32 h.val) = ![128 * (c - h).val, 0] := by decide +kernel
theorem dev1_tab : ∀ (c : Dev nD) (t : Fin k0_t1_loop.trips), k0_dev1 c t = (c + ⟨(1 + t.val) % 32, Nat.mod_lt _ (by omega)⟩).val := by
  decide +kernel

theorem slotOf_val (d : Fin 32) : slotOf d.val = d := Fin.ext (Nat.mod_eq_of_lt d.isLt)
theorem slotOf_lt {n : ℕ} (h : n < 32) : (slotOf n).val = n := Nat.mod_eq_of_lt h

theorem off1_eq (c : Dev nD) (n : ℕ) (hn : n < 32) {v : BitVec 32} (hv : v = BitVec.ofNat 32 n) : k0_off1 c v = ![0, 256 * (c + slotOf n).val] := by
  have h := off1_tab c (slotOf n); rw [slotOf_lt hn] at h; rw [hv, h]
theorem off5_eq (c : Dev nD) (n : ℕ) (hn : n < 32) {v : BitVec 32} (hv : v = BitVec.ofNat 32 n) : k0_off5 c v = ![(c - slotOf n).val] := by
  have h := off5_tab c (slotOf n); rw [slotOf_lt hn] at h; rw [hv, h]
theorem off6_eq (c : Dev nD) (n : ℕ) (hn : n < 32) {v : BitVec 32} (hv : v = BitVec.ofNat 32 n) : k0_off6 c v = ![(c - slotOf n).val, 0, 0] := by
  have h := off6_tab c (slotOf n); rw [slotOf_lt hn] at h; rw [hv, h]
theorem off7_eq (c : Dev nD) (n : ℕ) (hn : n < 32) {v : BitVec 32} (hv : v = BitVec.ofNat 32 n) : k0_off7 c v = ![(c - slotOf n).val, 0, 0] := by
  have h := off7_tab c (slotOf n); rw [slotOf_lt hn] at h; rw [hv, h]
theorem off8_eq (c : Dev nD) (n : ℕ) (hn : n < 32) {v : BitVec 32} (hv : v = BitVec.ofNat 32 n) : k0_off8 c v = ![128 * (c - slotOf n).val, 0] := by
  have h := off8_tab c (slotOf n); rw [slotOf_lt hn] at h; rw [hv, h]

/-! ## The views -/

abbrev wcolM (j : Fin 32) : Memref sig .tc .hbm S4096x256 .f32 := wM.slice (wcolR j) (fun _ => rfl)
abbrev quarterM (i : Fin 4) : Memref sig .tc .vmem S4096x256 .f32 :=
  (bM.slice (quarterR i) (fun _ => rfl)).squeeze S4096x256 squeezes_S1x4096x256_S4096x256
abbrev stageM (d : Fin 32) : Memref sig .tc .vmem S128x256 .bf16 :=
  (sM.slice (slotR d) (fun _ => rfl)).squeeze S128x256 squeezes_S1x128x256_S128x256
abbrev inboxM (s : Fin 32) : Memref sig .tc .vmem S128x256 .bf16 :=
  (iM.slice (slotR s) (fun _ => rfl)).squeeze S128x256 squeezes_S1x128x256_S128x256

theorem wcolM_eq (j : Fin 32) {off : Fin 2 → ℕ} (h : off = ![0, 256 * j.val])
    (inb : ∀ a, off a + S4096x256.size a ≤ S4096x8192.size a) (hs) :
    (Memref.whole main_arg1 : Memref sig .tc .hbm S4096x8192 .f32).slice (Rect.unit (s := S4096x8192) off S4096x256.size inb) hs = wcolM j := by
  subst h; rfl
theorem quarterM_eq (i : Fin 4) {off : Fin 3 → ℕ} (h : off = ![i.val / 2, 0, 256 * (i.val % 2)])
    (inb : ∀ a, off a + S1x4096x256.size a ≤ S2x4096x512.size a) (hs) (hq) :
    ((Memref.whole cc0_scratch0 : Memref sig .tc .vmem S2x4096x512 .f32).slice (Rect.unit (s := S2x4096x512) off S1x4096x256.size inb) hs).squeeze S4096x256 hq
      = quarterM i := by
  subst h; rfl
theorem stageM_eq (d : Fin 32) {off : Fin 3 → ℕ} (h : off = ![d.val, 0, 0])
    (inb : ∀ a, off a + S1x128x256.size a ≤ S32x128x256.size a) (hs) (hq) :
    ((Memref.whole cc0_scratch1 : Memref sig .tc .vmem S32x128x256 .bf16).slice (Rect.unit (s := S32x128x256) off S1x128x256.size inb) hs).squeeze S128x256 hq
      = stageM d := by
  subst h; rfl
theorem inboxM_eq (s : Fin 32) {off : Fin 3 → ℕ} (h : off = ![s.val, 0, 0])
    (inb : ∀ a, off a + S1x128x256.size a ≤ S32x128x256.size a) (hs) (hq) :
    ((Memref.whole cc0_scratch2 : Memref sig .tc .vmem S32x128x256 .bf16).slice (Rect.unit (s := S32x128x256) off S1x128x256.size inb) hs).squeeze S128x256 hq
      = inboxM s := by
  subst h; rfl

theorem sem1_inb (d : Fin 32) : ∀ a, (![d.val] : Fin 1 → Nat) a + S1.size a ≤ S32.size a := by revert d; decide
theorem sem2_inb (i : Fin 4) : ∀ a, (![i.val / 2, i.val % 2] : Fin 2 → Nat) a + S1x1.size a ≤ S2x2.size a := by revert i; decide
theorem sendS_tab : ∀ d : Fin 32, (((cc0_scratch4 : DmaSems sig S32).slice (Rect.unit (s := S32) ![d.val] S1.size (sem1_inb d))).squeeze S_ squeezes_S1_S_).sem = sendS d := by
  decide +kernel
theorem recvS_tab : ∀ d : Fin 32, (((cc0_scratch5 : DmaSems sig S32).slice (Rect.unit (s := S32) ![d.val] S1.size (sem1_inb d))).squeeze S_ squeezes_S1_S_).sem = recvS d := by
  decide +kernel
theorem fetchS_tab : ∀ i : Fin 4, (((cc0_scratch3 : DmaSems sig S2x2).slice (Rect.unit (s := S2x2) ![i.val / 2, i.val % 2] S1x1.size (sem2_inb i))).squeeze S_ squeezes_S1x1_S_).sem = fetchS i := by
  decide +kernel
theorem sendS_eq (d : Fin 32) {off : Fin 1 → ℕ} (h : off = ![d.val]) (inb) (hq) :
    (((cc0_scratch4 : DmaSems sig S32).slice (Rect.unit (s := S32) off S1.size inb)).squeeze S_ hq).sem = sendS d := by
  subst h; exact sendS_tab d
theorem recvS_eq (d : Fin 32) {off : Fin 1 → ℕ} (h : off = ![d.val]) (inb) (hq) :
    (((cc0_scratch5 : DmaSems sig S32).slice (Rect.unit (s := S32) off S1.size inb)).squeeze S_ hq).sem = recvS d := by
  subst h; exact recvS_tab d
theorem fetchS_eq (i : Fin 4) {off : Fin 2 → ℕ} (h : off = ![i.val / 2, i.val % 2]) (inb) (hq) :
    (((cc0_scratch3 : DmaSems sig S2x2).slice (Rect.unit (s := S2x2) off S1x1.size inb)).squeeze S_ hq).sem = fetchS i := by
  subst h; exact fetchS_tab i

/-! ## What they cover -/

omit [FloatOps F] in
theorem set_wcolM (j : Fin 32) : (wcolM j).view.set = (wcolR j).set := View.set_slice_whole _ _
omit [FloatOps F] in
theorem set_quarterM (i : Fin 4) : (quarterM i).view.set = (quarterR i).set := (View.set_reshape _ _).trans (View.set_slice_whole _ _)
theorem set_stageM (d : Fin 32) : (stageM d).view.set = (slotR d).set := (View.set_reshape _ _).trans (View.set_slice_whole _ _)
theorem set_inboxM (s : Fin 32) : (inboxM s).view.set = (slotR s).set := (View.set_reshape _ _).trans (View.set_slice_whole _ _)

theorem credit_slot (s : Fin 32) : (inboxM s).view.dmaCredit = N := rfl
theorem credit_stage (d : Fin 32) : (stageM d).view.dmaCredit = N := rfl
theorem credit_quarter (i : Fin 4) : (quarterM i).view.dmaCredit = NW := rfl

/-! ## What a landing leaves -/

/-- A fetched column block in its quarter. -/
theorem landed_quarter (c : Dev nD) (n : ℕ) (hn : n < 32) (f : Buf (Elt F) (bLoc c)) :
    ∀ z ∈ (quarterR (qtr n)).set, ((quarterM (qtr n)).view.write (Elt F) f ((wcolM (c + slotOf n)).view.read (Elt F) (wAt m c)) Finset.univ) z
      = bufAt m c (phase (slotOf n)) z := by
  intro z hz
  rw [← set_quarterM] at hz
  obtain ⟨y, -, rfl⟩ := Finset.mem_map.mp hz
  rw [View.write_emb_of_mem _ _ (Finset.mem_univ y)]
  obtain ⟨y0, y1, rfl⟩ : ∃ a b, y = ix2 a b := ⟨y 0, y 1, Idealize.ShloMosaic.ValueIdx.eq_ix2 y⟩
  show wAt m c ((wcolR (c + slotOf n)).emb (ix2 y0 y1)) = bufAt m c (phase (slotOf n)) ((quarterR (qtr n)).emb (Shape.reshapeEquiv _ (ix2 y0 y1)))
  rw [Idealize.ShloMosaic.ValueIdx.reshapeEquiv_ix2_1ab]
  unfold bufAt wslot
  refine congrArg (wAt m c) (funext fun a => Fin.ext ?_)
  have h0 : y0.val < 4096 := y0.isLt
  have h1 : y1.val < 256 := y1.isLt
  have hq : (qtr n).val = n % 4 := rfl
  have hs : (slotOf n).val = n := slotOf_lt hn
  have hp : (phase (slotOf n)).val = n / 2 := by show (slotOf n).val / 2 = n / 2; rw [hs]
  fin_cases a
  · show 0 + 1 * y0.val = 0 + 1 * y0.val; rfl
  · show 256 * (c + slotOf n).val + 1 * y1.val
      = 256 * ((c.val + 2 * (phase (slotOf n)).val + (256 * ((qtr n).val % 2) + 1 * y1.val) / 256) % 32) + (256 * ((qtr n).val % 2) + 1 * y1.val) % 256
    have hc : (c + slotOf n).val = (c.val + n) % 32 := (Fin.val_add c (slotOf n)).trans (by rw [hs])
    rw [hp, hq, hc]
    omega

/-- A staged piece landed in its slot of a peer's inbox. -/
theorem landed_slot (c : Dev nD) (d : Fin 32) (f : Buf (Elt F) (iLoc (c + d))) :
    ∀ z ∈ (slotR c).set, ((inboxM c).view.write (Elt F) f ((stageM d).view.read (Elt F) (stageAt m ρ c)) Finset.univ) z
      = inboxAt m ρ (c + d) z := by
  intro z hz
  rw [← set_inboxM] at hz
  obtain ⟨y, -, rfl⟩ := Finset.mem_map.mp hz
  rw [View.write_emb_of_mem _ _ (Finset.mem_univ y)]
  obtain ⟨y0, y1, rfl⟩ : ∃ a b, y = ix2 a b := ⟨y 0, y 1, Idealize.ShloMosaic.ValueIdx.eq_ix2 y⟩
  show stageAt m ρ c ((slotR d).emb (Shape.reshapeEquiv _ (ix2 y0 y1))) = inboxAt m ρ (c + d) ((slotR c).emb (Shape.reshapeEquiv _ (ix2 y0 y1)))
  rw [Idealize.ShloMosaic.ValueIdx.reshapeEquiv_ix2_1ab]
  unfold stageAt inboxAt inboxV
  have e1 : ((slotR d).emb (ix3 (⟨0, Nat.one_pos⟩ : Fin 1) y0 y1)) 0 = d := Fin.ext (by show d.val + 1 * 0 = d.val; omega)
  have e2 : ((slotR c).emb (ix3 (⟨0, Nat.one_pos⟩ : Fin 1) y0 y1)) 0 = c := Fin.ext (by show c.val + 1 * 0 = c.val; omega)
  rw [e1, e2, add_sub_self]
  rfl

/-! ## What the accesses read and leave -/

theorem read_x (c : Dev nD) (inb) : (xM).view.readAt (Elt F) (Rect.unit (s := S128x4096) ![0, 0] S128x4096.size inb).toLoadRect (xstg m ρ c) = xstg m ρ c :=
  Memref.readAt_unit_zero (Elt F) cc0_stg0_0 (funext fun a => by fin_cases a <;> rfl) _ _

theorem read_half (c : Dev nD) (p : Fin 16) (i : Fin 2) : (bM.access (halfR i)).read (Elt F) (bufAt m c p) = wslot m c p := by
  funext z
  show wslot m c p (ix3 0 (((halfR i).emb z) 1) (((halfR i).emb z) 2)) = _
  refine congrArg (wslot m c p) (funext fun a => Fin.ext ?_)
  fin_cases a
  · show 0 = (z 0).val; have : (z 0).val < 1 := (z 0).isLt; omega
  · show 0 + 1 * (z 1).val = (z 1).val; omega
  · show 0 + 1 * (z 2).val = (z 2).val; omega

theorem read_inbox (c : Dev nD) (s : Fin 32) : (iM.access (slotR s)).read (Elt F) (inboxAt m ρ c) = inboxV m ρ c s := by
  funext z
  show inboxV m ρ c (((slotR s).emb z) 0) (ix3 0 (((slotR s).emb z) 1) (((slotR s).emb z) 2)) = _
  have hz0 : (z 0).val < 1 := (z 0).isLt
  have e : ((slotR s).emb z) 0 = s := Fin.ext (by show s.val + 1 * (z 0).val = s.val; omega)
  rw [e]
  refine congrArg (inboxV m ρ c s) (funext fun a => Fin.ext ?_)
  fin_cases a
  · show 0 = (z 0).val; omega
  · show 0 + 1 * (z 1).val = (z 1).val; omega
  · show 0 + 1 * (z 2).val = (z 2).val; omega

theorem set_access_slot (b : Fin 32) : (sM.access (slotR b)).set = (slotR b).set := View.set_slice_whole _ _
theorem set_access_inbox (b : Fin 32) : (iM.access (slotR b)).set = (slotR b).set := View.set_slice_whole _ _
theorem set_access_rows (b : Fin 32) : (oM.access (rowsR b)).set = (rowsR b).set := View.set_slice_whole _ _
theorem set_access_half (b : Fin 2) : (bM.access (halfR b)).set = (halfR b).set := View.set_slice_whole _ _

theorem written_stage (c : Dev nD) (d : Fin 32) (f : Buf (Elt F) (sLoc c)) :
    ∀ z ∈ (slotR d).set, ((sM.access (slotR d)).write (Elt F) f (stageV m ρ c d) Finset.univ) z = stageAt m ρ c z := by
  intro z hz
  rw [← set_access_slot] at hz
  obtain ⟨y, -, rfl⟩ := Finset.mem_map.mp hz
  rw [View.write_emb_of_mem _ _ (Finset.mem_univ y)]
  show stageV m ρ c d y = stageV m ρ c (((slotR d).emb y) 0) (ix3 0 (((slotR d).emb y) 1) (((slotR d).emb y) 2))
  have hz0 : (y 0).val < 1 := (y 0).isLt
  have e : ((slotR d).emb y) 0 = d := Fin.ext (by show d.val + 1 * (y 0).val = d.val; omega)
  rw [e]
  refine congrArg (stageV m ρ c d) (funext fun a => Fin.ext ?_)
  fin_cases a
  · show (y 0).val = 0; omega
  · show (y 1).val = 0 + 1 * (y 1).val; omega
  · show (y 2).val = 0 + 1 * (y 2).val; omega

theorem written_rows (c : Dev nD) (s : Fin 32) (f : Buf (Elt F) (oLoc c)) :
    ∀ z ∈ (rowsR s).set, ((oM.access (rowsR s)).write (Elt F) f (outV m ρ c s) Finset.univ) z = outAt m ρ c z := by
  intro z hz
  rw [← set_access_rows] at hz
  obtain ⟨y, -, rfl⟩ := Finset.mem_map.mp hz
  rw [View.write_emb_of_mem _ _ (Finset.mem_univ y)]
  have h0 : (y 0).val < 128 := (y 0).isLt
  unfold outAt
  have e0 : (((rowsR s).emb y) 0).val = 128 * s.val + (y 0).val := by show 128 * s.val + 1 * (y 0).val = _; omega
  have e : (⟨(((rowsR s).emb y) 0).val / 128, by have : (((rowsR s).emb y) 0).val < 4096 := (((rowsR s).emb y) 0).isLt; omega⟩ : Fin 32) = s :=
    Fin.ext (by show (((rowsR s).emb y) 0).val / 128 = s.val; rw [e0]; omega)
  show outV m ρ c s y = outV m ρ c ⟨(((rowsR s).emb y) 0).val / 128, _⟩ (ix2 ⟨(((rowsR s).emb y) 0).val % 128, _⟩ (((rowsR s).emb y) 1))
  rw [e]
  refine congrArg (outV m ρ c s) (funext fun a => Fin.ext ?_)
  fin_cases a
  · show (y 0).val = (((rowsR s).emb y) 0).val % 128; rw [e0]; omega
  · show (y 1).val = 0 + 1 * (y 1).val; omega

/-- A half of the fetch buffer is its two quarters. -/
theorem half_union (n : ℕ) (hn : n % 2 = 0) :
    (halfR ⟨n / 2 % 2, Nat.mod_lt _ (by omega)⟩).set = (quarterR (qtr n)).set ∪ (quarterR (qtr (n + 1))).set := by
  have quarter : ∀ i : Fin 4, ∀ z : S2x4096x512.Idx, z ∈ (quarterR i).set
      ↔ (z 0).val = i.val / 2 ∧ 256 * (i.val % 2) ≤ (z 2).val ∧ (z 2).val < 256 * (i.val % 2) + 256 := fun i z => by
    have hz1 : (z 1).val < 4096 := (z 1).isLt
    rw [Rect.mem_set_unit]
    constructor
    · intro h
      have a0 : i.val / 2 ≤ (z 0).val ∧ (z 0).val < i.val / 2 + 1 := h 0
      have a2 : 256 * (i.val % 2) ≤ (z 2).val ∧ (z 2).val < 256 * (i.val % 2) + 256 := h 2
      omega
    · rintro ⟨h0, h2⟩ a
      fin_cases a
      · show i.val / 2 ≤ (z 0).val ∧ (z 0).val < i.val / 2 + 1; omega
      · show 0 ≤ (z 1).val ∧ (z 1).val < 0 + 4096; omega
      · exact h2
  ext z
  have hz1 : (z 1).val < 4096 := (z 1).isLt
  have hz2 : (z 2).val < 512 := (z 2).isLt
  rw [Finset.mem_union, quarter, quarter, Rect.mem_set_unit]
  show _ ↔ ((z 0).val = n % 4 / 2 ∧ 256 * (n % 4 % 2) ≤ (z 2).val ∧ (z 2).val < 256 * (n % 4 % 2) + 256)
    ∨ ((z 0).val = (n + 1) % 4 / 2 ∧ 256 * ((n + 1) % 4 % 2) ≤ (z 2).val ∧ (z 2).val < 256 * ((n + 1) % 4 % 2) + 256)
  constructor
  · intro h
    have a0 : n / 2 % 2 ≤ (z 0).val ∧ (z 0).val < n / 2 % 2 + 1 := h 0
    omega
  · intro h a
    fin_cases a
    · show n / 2 % 2 ≤ (z 0).val ∧ (z 0).val < n / 2 % 2 + 1; omega
    · show 0 ≤ (z 1).val ∧ (z 1).val < 0 + 4096; omega
    · show 0 ≤ (z 2).val ∧ (z 2).val < 0 + 512; omega
theorem quarter_disjoint (n : ℕ) (hn : n % 2 = 0) : Disjoint (quarterR (qtr n)).set (quarterR (qtr (n + 1))).set := by
  rw [Finset.disjoint_left]
  intro z h1 h2
  rw [Rect.mem_set_unit] at h1 h2
  have a1 := h1 2
  have a2 := h2 2
  simp [qtr] at a1 a2
  omega

end Cert.KernelIdeal.Exchange
-- ==== Proof.Run.KernelIdeal.Steps.lean ====
/-
One device's state between two operations of the body, and one lemma per kind of operation carrying it across: the
column fetches, the slot loads, the staged stores, the sends, the receives, the stores of the result, the send waits.
-/
module

public import proofs.«01_k».proof.Proof.Run.KernelIdeal.Geom

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

abbrev 𝒱₀ : Variants := Variants.none
/-- The weakest precondition of a program of device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Opening one or two summands of a separating sum, to be closed at other assertions -/

theorem lane_open {I : Type} [DecidableEq I] {s : Finset I} {i : I} {Φ Ψ : I → sProp 𝕄} (mem : i ∈ s) (same : ∀ j, j ≠ i → Φ j = Ψ j) :
    bigSep s Φ ⊢ iprop(Φ i ∗ (Ψ i -∗ bigSep s Ψ)) := by
  rw [bigSep_erase mem]
  rw [bigSep_erase (Φ := Ψ) mem, bigSep_congr (Φ := Φ) (Ψ := Ψ) fun j hj => same j (Finset.ne_of_mem_erase hj)]
  show iprop(Φ i ∗ bigSep (s.erase i) Ψ) ⊢ iprop(Φ i ∗ (Ψ i -∗ (Ψ i ∗ bigSep (s.erase i) Ψ)))
  iintro ⟨H, Hr⟩
  isplitl [H]; · iexact H
  iintro H
  isplitl [H]; · iexact H
  iexact Hr
theorem lane_elim {I : Type} [DecidableEq I] {s : Finset I} {i : I} {Φ : I → sProp 𝕄} (mem : i ∈ s) : (bigSep s Φ : sProp 𝕄) ⊢ Φ i :=
  bigSep_elim mem
theorem lane_open2 {I : Type} [DecidableEq I] {s : Finset I} {i j : I} {Φ Ψ : I → sProp 𝕄} (mi : i ∈ s) (mj : j ∈ s) (hij : j ≠ i)
    (same : ∀ l, l ≠ i → l ≠ j → Φ l = Ψ l) :
    bigSep s Φ ⊢ iprop(Φ i ∗ Φ j ∗ (Ψ i -∗ Ψ j -∗ bigSep s Ψ)) := by
  have mj' : j ∈ s.erase i := Finset.mem_erase.mpr ⟨hij, mj⟩
  rw [bigSep_erase mi, bigSep_erase mj']
  rw [bigSep_erase (Φ := Ψ) mi, bigSep_erase (Φ := Ψ) mj', bigSep_congr (Φ := Φ) (Ψ := Ψ) fun l hl =>
    same l (Finset.ne_of_mem_erase (Finset.mem_of_mem_erase hl)) (Finset.ne_of_mem_erase hl)]
  show iprop(Φ i ∗ Φ j ∗ bigSep ((s.erase i).erase j) Ψ)
    ⊢ iprop(Φ i ∗ Φ j ∗ (Ψ i -∗ Ψ j -∗ (Ψ i ∗ Ψ j ∗ bigSep ((s.erase i).erase j) Ψ)))
  iintro ⟨H, H', Hr⟩
  isplitl [H]; · iexact H
  isplitl [H']; · iexact H'
  iintro H H'
  isplitl [H]; · iexact H
  isplitl [H']; · iexact H'
  iexact Hr

/-! ## The state -/

section State
variable (c : Dev nD)

/-- A column block of `w`, there at all for the 32 fetches. -/
def colP (n : ℕ) : sProp 𝕄 :=
  if n < 32 then iprop(wLoc c ↦[(wcolR (c + slotOf n)).set]{fullShare} wAt m c) else iprop(emp)
def freeP (n : ℕ) : sProp 𝕄 := iprop((∃ g, bLoc c ↦[(quarterR (qtr n)).set]{fullShare} g) ∗ semVal (fetchCell c (qtr n)) 0)
def fullP (n : ℕ) : sProp 𝕄 :=
  iprop((bLoc c ↦[(quarterR (qtr n)).set]{fullShare} bufAt m c (phase (slotOf n))) ∗ semVal (fetchCell c (qtr n)) 0)
def flyP (n : ℕ) : sProp 𝕄 :=
  Transfers.Flight countersEmb (c : Thread nD τ) (.dma (fetchS (qtr n))) () NW
    iprop((bLoc c ↦[(quarterR (qtr n)).set]{fullShare} bufAt m c (phase (slotOf n)))
      ∗ (wLoc c ↦[(wcolR (c + slotOf n)).set]{fullShare} wAt m c))
/-- The `n`-th fetch, with `f` of them issued, `w` waited for and `r` consumed. -/
def fetchItem (f w r n : ℕ) : sProp 𝕄 :=
  if n < r then colP m c n
  else if n < w then iprop(fullP m c n ∗ colP m c n)
  else if n < f then flyP m c n
  else if n < r + 4 then iprop(freeP c n ∗ colP m c n)
  else colP m c n
/-- The piece for distance `d`, with those below `st` stored, those below `k` sent and those below `v` waited for. -/
def sendItem (st k v : ℕ) (d : Fin 32) : sProp 𝕄 :=
  if d.val < v then iprop((∃ g, sLoc c ↦[(slotR d).set]{fullShare} g) ∗ atPos ER (sendCell c d) 1 ∅ 0)
  else if d.val < k then iprop(cred (tallyAt (sendCell c d) () N) ∗ atPos ER (sendCell c d) 0 ∅ 0)
  else iprop((if d.val < st then iprop(sLoc c ↦[(slotR d).set]{fullShare} stageAt m ρ c) else iprop(∃ g, sLoc c ↦[(slotR d).set]{fullShare} g))
    ∗ atPos ER (sendCell c d) 0 ∅ 0 ∗ dutyTok ER (sendCell c d) 0 (0 : Fin 32) ∗ dutyTok ER (recvCell (c + d) c) 0 (0 : Fin 32)
    ∗ ∃ g, iLoc (c + d) ↦[(slotR c).set]{fullShare} g)
/-- The piece from the device at distance `h` behind, with those below `a` waited for. -/
def recvItem (a : ℕ) (h : Fin 32) : sProp 𝕄 :=
  if h.val < a then iprop((iLoc c ↦[(slotR (c - h)).set]{fullShare} inboxAt m ρ c) ∗ atPos ER (recvCell c (c - h)) 1 ∅ 0)
  else iprop(cred (tallyAt (recvCell c (c - h)) () N) ∗ atPos ER (recvCell c (c - h)) 0 ∅ 0)
/-- The row block of the result from that device, with those below `b` stored. -/
def outItem (b : ℕ) (h : Fin 32) : sProp 𝕄 :=
  if h.val < b then iprop(oLoc c ↦[(rowsR (c - h)).set]{fullShare} outAt m ρ c)
  else iprop(∃ g, oLoc c ↦[(rowsR (c - h)).set]{fullShare} g)

end State

variable (K : Dev nD × KC → ℕ)

/-- What every device knows: the levels, every cell's invariant, and that every cell's round 0 is reached. -/
def invs : sProp 𝕄 :=
  iprop(levAts L lv ∗ bigSep Finset.univ (fun ck : Dev nD × KC => cellInv ER (exRd m ρ) (K ck) (kcell ck))
    ∗ bigSep Finset.univ (fun ck : Dev nD × KC => reached ER (kcell ck) 0))
instance invs_persistent : Persistent (invs m ρ K) := by unfold invs; infer_instance
theorem invs_lev : invs m ρ K ⊢ (levAts L lv : sProp 𝕄) := by unfold invs; iintro ⟨#H, -⟩; iexact H
theorem invs_cell (ck : Dev nD × KC) : invs m ρ K ⊢ cellInv ER (exRd m ρ) (K ck) (kcell ck) := by
  unfold invs
  iintro ⟨-, #H, -⟩
  iapply (lane_elim (Finset.mem_univ ck) (Φ := fun ck : Dev nD × KC => cellInv ER (exRd m ρ) (K ck) (kcell ck))) $$ H
theorem invs_reached (ck : Dev nD × KC) : invs m ρ K ⊢ (reached ER (kcell ck) 0 : sProp 𝕄) := by
  unfold invs
  iintro ⟨-, -, #H⟩
  iapply (lane_elim (Finset.mem_univ ck) (Φ := fun ck : Dev nD × KC => (reached ER (kcell ck) 0 : sProp 𝕄))) $$ H

/-- The state: `f`, `w`, `r` fetches issued, waited for, consumed; the pieces below `st` stored, below `k` sent, below `v`
    waited for; the arrivals below `a` waited for; the row blocks below `b` stored. -/
def St (c : Dev nD) (f w r st k v a b : ℕ) : sProp 𝕄 :=
  iprop(invs m ρ K ∗ ((xLoc c ↦{fullShare} xstg m ρ c) ∗ atPos ER (barCell c) 1 ∅ 0)
    ∗ bigSep (Finset.range 36) (fetchItem m c f w r)
    ∗ bigSep D1 (sendItem m ρ c st k v)
    ∗ bigSep D1 (recvItem m ρ c a)
    ∗ bigSep Finset.univ (outItem m ρ c b)
    ∗ ∃ W, owes (c : Thread nD τ) (OR c k) W)

theorem mem_D1 {n : ℕ} (h1 : 1 ≤ n) (h2 : n < 32) : slotOf n ∈ D1 := by
  refine Finset.mem_erase.mpr ⟨fun h => ?_, Finset.mem_univ _⟩
  have := congrArg Fin.val h
  rw [slotOf_lt h2] at this
  change n = 0 at this
  omega
theorem ne_zero {n : ℕ} (h1 : 1 ≤ n) (h2 : n < 32) : slotOf n ≠ 0 := (Finset.mem_erase.mp (mem_D1 h1 h2)).1
theorem val_ne {n : ℕ} (h2 : n < 32) {j : Fin 32} (hj : j ≠ slotOf n) : j.val ≠ n := fun h => hj (Fin.ext (by rw [slotOf_lt h2]; exact h))

section Steps
variable {m ρ K} {c : Dev nD} {f w r st k v a b : ℕ} {α : Type} {Q : α → sProp (MT nD τ sig Unit (Elt F) ℕ UU ℕ)}

/-! ## The fetches -/

/-- What the `n`-th fetch delivers, in the state's terms. -/
theorem land_fetch {n : ℕ} (hn : n < 32) (g : Buf (Elt F) (bLoc c)) :
    (iprop((((quarterM (qtr n)).view.loc (c : Thread nD τ)) ↦[(quarterM (qtr n)).view.set]{fullShare}
        ((quarterM (qtr n)).view.write (Elt F) g (ReadAs.same.apply ((wcolM (c + slotOf n)).view.read (Elt F) (wAt m c))) Finset.univ))
      ∗ (((wcolM (c + slotOf n)).view.loc (c : Thread nD τ)) ↦[(wcolM (c + slotOf n)).view.set]{fullShare} wAt m c)) : sProp 𝕄)
    ⊢ iprop((bLoc c ↦[(quarterR (qtr n)).set]{fullShare} bufAt m c (phase (slotOf n)))
      ∗ (wLoc c ↦[(wcolR (c + slotOf n)).set]{fullShare} wAt m c)) := by
  rw [set_wcolM, set_quarterM]
  have h : ((bLoc c ↦[(quarterR (qtr n)).set]{fullShare}
        ((quarterM (qtr n)).view.write (Elt F) g ((wcolM (c + slotOf n)).view.read (Elt F) (wAt m c)) Finset.univ)) : sProp 𝕄)
      = (bLoc c ↦[(quarterR (qtr n)).set]{fullShare} bufAt m c (phase (slotOf n))) := pointsTo_congr (landed_quarter m c n hn g)
  exact Entails.of_eq (congrArg (fun P => iprop(P ∗ (wLoc c ↦[(wcolR (c + slotOf n)).set]{fullShare} wAt m c))) h)

/-- The next fetch issued. -/
theorem step_fetch (hf : f < 32) (hr : f < r + 4) (hw : w ≤ f) (hrw : r ≤ w)
    {src : Memref sig .tc .hbm S4096x256 .f32} {dst : Memref sig .tc .vmem S4096x256 .f32} {sem : DmaSem sig}
    {h1 : src.view.WordExact} {h2 : dst.view.WordExact} {h3 : DmaTarget.Typed .hbm (.dma sem) (.here dst : DmaTarget nD τ sig .tc .vmem S4096x256 .f32)}
    {kont : PUnit → Prog (TpuEff nD τ sig (Elt F) Λ₀ .tc) α}
    (hsrc : src = wcolM (c + slotOf f)) (hdst : dst = quarterM (qtr f)) (hsem : sem = fetchS (qtr f))
    (H : St m ρ K c (f + 1) w r st k v a b ⊢ WP c (kont PUnit.unit) Q) :
    St m ρ K c f w r st k v a b ⊢ WP c (.op (.enqueueDma src (.here dst) (.dma sem) h1 h2 h3) kont) Q := by
  subst hsrc hdst hsem
  unfold St at H ⊢
  iintro ⟨#Hi, Hx, HF, HS, HR, HO, Howe⟩
  have hsame : ∀ j, j ≠ f → fetchItem m c f w r j = fetchItem m c (f + 1) w r j := fun j hj => by
    unfold fetchItem
    simp only [show (j < f + 1) = (j < f) from propext (by omega)]
  have hmem : f ∈ Finset.range 36 := Finset.mem_range.mpr (by omega)
  ihave HF := (lane_open (i := f) (Ψ := fetchItem m c (f + 1) w r) hmem hsame) $$ HF
  icases HF with ⟨Hit, HF⟩
  have hit : fetchItem m c f w r f = iprop(freeP c f ∗ colP m c f) := by
    unfold fetchItem; rw [if_neg (by omega), if_neg (by omega), if_neg (by omega), if_pos hr]
  ihave Hit := (Entails.of_eq hit) $$ Hit
  unfold freeP colP
  rw [if_pos hf]
  icases Hit with ⟨⟨⟨%g, Hb⟩, Hv⟩, Hw⟩
  iapply (Transfers.wp_dmaLocal countersEmb 𝒱₀ (c : Thread nD τ) none () NW (credit_quarter (qtr f)) NW_pos
    (Finset.Subset.refl _) (sm := .dma (fetchS (qtr f))) (src := wcolM (c + slotOf f)) (dst := quarterM (qtr f)) (fs := wAt m c) (fd := g) (k := kont) (Q := Q)) $$ [Hb Hv Hw]
  · rw [set_wcolM, set_quarterM]
    isplitl [Hw]; · iexact Hw
    isplitl [Hb]; · iexact Hb
    iexact Hv
  iintro Hfly
  iapply H
  isplitr; · iexact Hi
  isplitl [Hx]; · iexact Hx
  isplitl [HF Hfly]
  · iapply HF
    rw [show fetchItem m c (f + 1) w r f = flyP m c f by
      unfold fetchItem; rw [if_neg (by omega), if_neg (by omega), if_pos (by omega)]]
    unfold flyP
    iapply (Transfers.Flight_mono countersEmb (c : Thread nD τ) (land_fetch (m := m) hf g)) $$ Hfly
  isplitl [HS]; · iexact HS
  isplitl [HR]; · iexact HR
  isplitl [HO]; · iexact HO
  iexact Howe

/-- The next fetch waited for. -/
theorem step_fetched (hw : w < f) (hrw : r ≤ w) (hf : f ≤ 32)
    {src : Memref sig .tc .hbm S4096x256 .f32} {dst : Memref sig .tc .vmem S4096x256 .f32} {sem : DmaSem sig}
    {h1 : src.view.WordExact} {h2 : dst.view.WordExact}
    {kont : PUnit → Prog (TpuEff nD τ sig (Elt F) Λ₀ .tc) α}
    (hdst : dst = quarterM (qtr w)) (hsem : sem = fetchS (qtr w))
    (H : St m ρ K c f (w + 1) r st k v a b ⊢ WP c (kont PUnit.unit) Q) :
    St m ρ K c f w r st k v a b ⊢ WP c (.op (.waitDma2 sem src dst h1 h2) kont) Q := by
  subst hdst hsem
  unfold St at H ⊢
  iintro ⟨#Hi, Hx, HF, HS, HR, HO, ⟨%W, Howe⟩⟩
  have hsame : ∀ j, j ≠ w → fetchItem m c f w r j = fetchItem m c f (w + 1) r j := fun j hj => by
    unfold fetchItem
    simp only [show (j < w + 1) = (j < w) from propext (by omega)]
  have hmem : w ∈ Finset.range 36 := Finset.mem_range.mpr (by omega)
  ihave HF := (lane_open (i := w) (Ψ := fetchItem m c f (w + 1) r) hmem hsame) $$ HF
  icases HF with ⟨Hit, HF⟩
  have hit : fetchItem m c f w r w = flyP m c w := by
    unfold fetchItem; rw [if_neg (by omega), if_neg (by omega), if_pos hw]
  have hit' : fetchItem m c f (w + 1) r w = iprop(fullP m c w ∗ colP m c w) := by
    unfold fetchItem; rw [if_neg (by omega), if_pos (by omega)]
  have hlt : (fetchS (qtr w)).val < 38 := by
    have := (qtr w).isLt
    show 2 + (qtr w).val < 38; omega
  ihave Hit := (Entails.of_eq hit) $$ Hit
  unfold flyP
  iapply (Transfers.wp_waitLocalO countersEmb 𝒱₀ (c : Thread nD τ) none () (credit_quarter (qtr w)) (sem := fetchS (qtr w))
    (O := OR c k) (W := W) (srcw := src) (k := kont) (Q := Q)) $$ [Hit Howe]
  · isplitl [Hit]; · iexact Hit
    isplitl [Howe]; · iexact Howe
    iapply ((invs_lev m ρ K).trans (mayWait_low c (fetchS (qtr w)) hlt k)) $$ Hi
  iintro ⟨⟨Hb, Hw⟩, Hv, Howe⟩
  iapply H
  isplitr; · iexact Hi
  isplitl [Hx]; · iexact Hx
  isplitl [HF Hb Hv Hw]
  · iapply HF
    rw [hit']
    unfold fullP colP
    rw [if_pos (by omega)]
    isplitl [Hb Hv]
    · isplitl [Hb]; · iexact Hb
      iexact Hv
    iexact Hw
  isplitl [HS]; · iexact HS
  isplitl [HR]; · iexact HR
  isplitl [HO]; · iexact HO
  iexists (insert (SemLoc.dma (fetchS (qtr w)), ()) W)
  iexact Howe

/-- A quarter consumed: free for the fetch four later. -/
theorem release (hr : r < w) (hw : w ≤ r + 4) (hf : f ≤ r + 4) (h32 : r < 32) :
    St m ρ K c f w r st k v a b ⊢ St m ρ K c f w (r + 1) st k v a b := by
  unfold St
  iintro ⟨#Hi, Hx, HF, HS, HR, HO, Howe⟩
  have hsame : ∀ j, j ≠ r → j ≠ r + 4 → fetchItem m c f w r j = fetchItem m c f w (r + 1) j := fun j hj hj' => by
    unfold fetchItem
    simp only [show (j < r + 1) = (j < r) from propext (by omega), show (j < r + 1 + 4) = (j < r + 4) from propext (by omega)]
  have hm1 : r ∈ Finset.range 36 := Finset.mem_range.mpr (by omega)
  have hm2 : r + 4 ∈ Finset.range 36 := Finset.mem_range.mpr (by omega)
  have hne : r + 4 ≠ r := by omega
  ihave HF := (lane_open2 (i := r) (j := r + 4) (Ψ := fetchItem m c f w (r + 1)) hm1 hm2 hne hsame) $$ HF
  icases HF with ⟨Hit, Hit4, HF⟩
  have hit : fetchItem m c f w r r = iprop(fullP m c r ∗ colP m c r) := by
    unfold fetchItem; rw [if_neg (by omega), if_pos hr]
  have hit' : fetchItem m c f w (r + 1) r = colP m c r := by
    unfold fetchItem; rw [if_pos (by omega)]
  have hit4 : fetchItem m c f w r (r + 4) = colP m c (r + 4) := by
    unfold fetchItem; rw [if_neg (by omega), if_neg (by omega), if_neg (by omega), if_neg (by omega)]
  have hit4' : fetchItem m c f w (r + 1) (r + 4) = iprop(freeP c (r + 4) ∗ colP m c (r + 4)) := by
    unfold fetchItem; rw [if_neg (by omega), if_neg (by omega), if_neg (by omega), if_pos (by omega)]
  have hq : qtr (r + 4) = qtr r := Fin.ext (by show (r + 4) % 4 = r % 4; omega)
  unfold fullP at hit
  ihave Hit := (Entails.of_eq hit) $$ Hit
  ihave Hit4 := (Entails.of_eq hit4) $$ Hit4
  icases Hit with ⟨⟨Hb, Hv⟩, Hw⟩
  isplitr; · iexact Hi
  isplitl [Hx]; · iexact Hx
  isplitl [HF Hb Hv Hw Hit4]
  · iapply HF $$ [Hw]
    · rw [hit']; iexact Hw
    rw [hit4']
    unfold freeP
    rw [hq]
    isplitr [Hit4]
    · isplitl [Hb]
      · iexists (bufAt m c (phase (slotOf r)))
        iexact Hb
      iexact Hv
    iexact Hit4
  isplitl [HS]; · iexact HS
  isplitl [HR]; · iexact HR
  isplitl [HO]; · iexact HO
  iexact Howe

/-- The two column blocks of a phase loaded, and consumed. -/
theorem step_slot (hr : r % 2 = 0) (hw : r + 2 = w) (hf : f ≤ r + 4) (h32 : r < 32) {off : Fin 3 → ℕ}
    {inb : ∀ a, off a + S1x4096x512.size a ≤ S2x4096x512.size a}
    {hl : (bM).view.LoadsAt (Rect.unit (s := S2x4096x512) off S1x4096x512.size inb).toLoadRect}
    {kont : Vec F S1x4096x512 .f32 → Prog (TpuEff nD τ sig (Elt F) Λ₀ .tc) α}
    (hoff : off = ![r / 2 % 2, 0, 0])
    (H : St m ρ K c f w (r + 2) st k v a b ⊢ WP c (kont (wslot m c (phase (slotOf r)))) Q) :
    St m ρ K c f w r st k v a b
      ⊢ WP c (.op (.load bM (Rect.unit (s := S2x4096x512) off S1x4096x512.size inb).toLoadRect hl) kont) Q := by
  subst hoff
  have H' : St m ρ K c f w r st k v a b ⊢ WP c (kont (wslot m c (phase (slotOf r)))) Q :=
    ((release (by omega) (by omega) (by omega) h32).trans (release (by omega) (by omega) (by omega) (by omega))).trans H
  clear H
  unfold St at H' ⊢
  iintro ⟨#Hi, Hx, HF, HS, HR, HO, Howe⟩
  have hm1 : r ∈ Finset.range 36 := Finset.mem_range.mpr (by omega)
  have hm2 : r + 1 ∈ Finset.range 36 := Finset.mem_range.mpr (by omega)
  have hne : r + 1 ≠ r := by omega
  ihave HF := (lane_open2 (i := r) (j := r + 1) (Ψ := fetchItem m c f w r) hm1 hm2 hne (fun _ _ _ => rfl)) $$ HF
  icases HF with ⟨Hit, Hit1, HF⟩
  have hit : fetchItem m c f w r r = iprop(fullP m c r ∗ colP m c r) := by
    unfold fetchItem; rw [if_neg (by omega), if_pos (by omega)]
  have hit1 : fetchItem m c f w r (r + 1) = iprop(fullP m c (r + 1) ∗ colP m c (r + 1)) := by
    unfold fetchItem; rw [if_neg (by omega), if_pos (by omega)]
  have hp : phase (slotOf (r + 1)) = phase (slotOf r) := Fin.ext (by
    show (slotOf (r + 1)).val / 2 = (slotOf r).val / 2
    rw [slotOf_lt (by omega), slotOf_lt h32]; omega)
  unfold fullP at hit hit1
  rw [hp] at hit1
  ihave Hit := (Entails.of_eq hit) $$ Hit
  ihave Hit1 := (Entails.of_eq hit1) $$ Hit1
  icases Hit with ⟨⟨Hb, Hv⟩, Hw⟩
  icases Hit1 with ⟨⟨Hb1, Hv1⟩, Hw1⟩
  have hun : ((bLoc c ↦[(halfR ⟨r / 2 % 2, Nat.mod_lt _ (by omega)⟩).set]{fullShare} bufAt m c (phase (slotOf r))) : sProp 𝕄)
      ⊣⊢ iprop((bLoc c ↦[(quarterR (qtr r)).set]{fullShare} bufAt m c (phase (slotOf r)))
        ∗ (bLoc c ↦[(quarterR (qtr (r + 1))).set]{fullShare} bufAt m c (phase (slotOf r)))) := by
    rw [half_union r hr]; exact pointsTo_union (quarter_disjoint r hr)
  ihave Hh := hun.2 $$ [Hb Hb1]
  · isplitl [Hb]; · iexact Hb
    iexact Hb1
  iapply (wp_load_rect (defs := defs₀ (F := F)) 𝒱₀ (c : Thread nD τ) none Set.univ (m := bM) (r := halfR ⟨r / 2 % 2, Nat.mod_lt _ (by omega)⟩)
    (hl := hl) (set_access_half _).subset (f := bufAt m c (phase (slotOf r))) (q := fullShare) (k := kont) (Q := Q)) $$ [Hh]
  · iexact Hh
  iintro Hh
  ihave Hh := hun.1 $$ Hh
  icases Hh with ⟨Hb, Hb1⟩
  rw [read_half m c (phase (slotOf r)) ⟨r / 2 % 2, Nat.mod_lt _ (by omega)⟩]
  iapply H'
  isplitr; · iexact Hi
  isplitl [Hx]; · iexact Hx
  isplitl [HF Hb Hv Hw Hb1 Hv1 Hw1]
  · iapply HF $$ [Hb Hv Hw]
    · rw [hit]
      isplitl [Hb Hv]
      · isplitl [Hb]; · iexact Hb
        iexact Hv
      iexact Hw
    rw [hit1]
    isplitl [Hb1 Hv1]
    · isplitl [Hb1]; · iexact Hb1
      iexact Hv1
    iexact Hw1
  isplitl [HS]; · iexact HS
  isplitl [HR]; · iexact HR
  isplitl [HO]; · iexact HO
  iexact Howe

/-- The staged `x` block loaded. -/
theorem step_x {inb : ∀ a, (![0, 0] : Fin 2 → Nat) a + S128x4096.size a ≤ S128x4096.size a}
    {hl : (xM).view.LoadsAt (Rect.unit (s := S128x4096) ![0, 0] S128x4096.size inb).toLoadRect}
    {kont : Vec F S128x4096 .f32 → Prog (TpuEff nD τ sig (Elt F) Λ₀ .tc) α}
    (H : St m ρ K c f w r st k v a b ⊢ WP c (kont (xstg m ρ c)) Q) :
    St m ρ K c f w r st k v a b
      ⊢ WP c (.op (.load xM (Rect.unit (s := S128x4096) ![0, 0] S128x4096.size inb).toLoadRect hl) kont) Q := by
  unfold St at H ⊢
  iintro ⟨#Hi, ⟨Hx, Hbar⟩, HF, HS, HR, HO, Howe⟩
  iapply (wp_load (defs := defs₀ (F := F)) 𝒱₀ (c : Thread nD τ) none Set.univ (m := xM) (hl := hl)
    (Finset.subset_univ _) (f := xstg m ρ c) (q := fullShare) (k := kont) (Q := Q)) $$ [Hx]
  · iexact Hx
  iintro Hx
  rw [read_x m ρ c inb]
  iapply H
  isplitr; · iexact Hi
  isplitl [Hx Hbar]
  · isplitl [Hx]; · iexact Hx
    iexact Hbar
  isplitl [HF]; · iexact HF
  isplitl [HS]; · iexact HS
  isplitl [HR]; · iexact HR
  isplitl [HO]; · iexact HO
  iexact Howe

/-! ## The pieces -/

theorem sendItem_unsent (h1 : v ≤ st) (h2 : k ≤ st) (h32 : st < 32) (s' : ℕ) :
    sendItem m ρ c s' k v (slotOf st)
      = iprop((if st < s' then iprop(sLoc c ↦[(slotR (slotOf st)).set]{fullShare} stageAt m ρ c)
          else iprop(∃ g, sLoc c ↦[(slotR (slotOf st)).set]{fullShare} g))
        ∗ atPos ER (sendCell c (slotOf st)) 0 ∅ 0 ∗ dutyTok ER (sendCell c (slotOf st)) 0 (0 : Fin 32)
        ∗ dutyTok ER (recvCell (c + slotOf st) c) 0 (0 : Fin 32)
        ∗ ∃ g, iLoc (c + slotOf st) ↦[(slotR c).set]{fullShare} g) := by
  unfold sendItem; rw [slotOf_lt h32, if_neg (by omega), if_neg (by omega)]

/-- A stage slot read before it is written: whatever it holds. -/
theorem step_peek (h1 : 1 ≤ st) (hv : v ≤ st) (hk : k ≤ st) (h32 : st < 32) {off : Fin 3 → ℕ}
    {inb : ∀ a, off a + S1x128x256.size a ≤ S32x128x256.size a}
    {hl : (sM).view.LoadsAt (Rect.unit (s := S32x128x256) off S1x128x256.size inb).toLoadRect}
    {kont : Vec F S1x128x256 .bf16 → Prog (TpuEff nD τ sig (Elt F) Λ₀ .tc) α}
    (hoff : off = ![st, 0, 0])
    (H : ∀ x, St m ρ K c f w r st k v a b ⊢ WP c (kont x) Q) :
    St m ρ K c f w r st k v a b
      ⊢ WP c (.op (.load sM (Rect.unit (s := S32x128x256) off S1x128x256.size inb).toLoadRect hl) kont) Q := by
  obtain rfl : off = ![(slotOf st).val, 0, 0] := by rw [slotOf_lt h32]; exact hoff
  unfold St at H ⊢
  iintro ⟨#Hi, Hx, HF, HS, HR, HO, Howe⟩
  ihave HS := (lane_open (i := slotOf st) (Ψ := sendItem m ρ c st k v) (mem_D1 h1 h32) (fun _ _ => rfl)) $$ HS
  icases HS with ⟨Hit, HS⟩
  have hs := sendItem_unsent (m := m) (ρ := ρ) (c := c) hv hk h32 st
  rw [if_neg (by omega)] at hs
  ihave Hit := (Entails.of_eq hs) $$ Hit
  icases Hit with ⟨⟨%g, Hb⟩, Hit⟩
  iapply (wp_load_rect (defs := defs₀ (F := F)) 𝒱₀ (c : Thread nD τ) none Set.univ (m := sM) (r := slotR (slotOf st))
    (hl := hl) (set_access_slot _).subset (f := g) (q := fullShare) (k := kont) (Q := Q)) $$ [Hb]
  · iexact Hb
  iintro Hb
  iapply (H _)
  isplitr; · iexact Hi
  isplitl [Hx]; · iexact Hx
  isplitl [HF]; · iexact HF
  isplitl [HS Hb Hit]
  · iapply HS
    rw [hs]
    isplitl [Hb]
    · iexists g; iexact Hb
    iexact Hit
  isplitl [HR]; · iexact HR
  isplitl [HO]; · iexact HO
  iexact Howe

/-- The next piece stored into its stage slot. -/
theorem step_stage (h1 : 1 ≤ st) (hv : v ≤ st) (hk : k ≤ st) (h32 : st < 32) {off : Fin 3 → ℕ}
    {inb : ∀ a, off a + S1x128x256.size a ≤ S32x128x256.size a} {x : FVec F S1x128x256 .bf16}
    {hx : ((sM).access (Rect.unit (s := S32x128x256) off S1x128x256.size inb)).Stores Finset.univ} {hm}
    {kont : PUnit → Prog (TpuEff nD τ sig (Elt F) Λ₀ .tc) α}
    (hoff : off = ![st, 0, 0]) (hval : x = stageV m ρ c (slotOf st))
    (H : St m ρ K c f w r (st + 1) k v a b ⊢ WP c (kont PUnit.unit) Q) :
    St m ρ K c f w r st k v a b
      ⊢ WP c (.op (.store sM (Rect.unit (s := S32x128x256) off S1x128x256.size inb) x Finset.univ hx hm) kont) Q := by
  obtain rfl : off = ![(slotOf st).val, 0, 0] := by rw [slotOf_lt h32]; exact hoff
  subst hval
  unfold St at H ⊢
  iintro ⟨#Hi, Hx, HF, HS, HR, HO, Howe⟩
  have hsame : ∀ j, j ≠ slotOf st → sendItem m ρ c st k v j = sendItem m ρ c (st + 1) k v j := fun j hj => by
    have := val_ne h32 hj
    unfold sendItem
    simp only [show (j.val < st + 1) = (j.val < st) from propext (by omega)]
  ihave HS := (lane_open (i := slotOf st) (Ψ := sendItem m ρ c (st + 1) k v) (mem_D1 h1 h32) hsame) $$ HS
  icases HS with ⟨Hit, HS⟩
  have hs := sendItem_unsent (m := m) (ρ := ρ) (c := c) hv hk h32 st
  rw [if_neg (by omega)] at hs
  have hs' := sendItem_unsent (m := m) (ρ := ρ) (c := c) hv hk h32 (st + 1)
  rw [if_pos (by omega)] at hs'
  ihave Hit := (Entails.of_eq hs) $$ Hit
  icases Hit with ⟨⟨%g, Hb⟩, Hit⟩
  have hset : ((sM).access (slotR (slotOf st))).setOn Finset.univ ⊆ (slotR (slotOf st)).set := (set_access_slot _).subset
  have hland : ((sLoc c ↦[(slotR (slotOf st)).set]{fullShare} ((sM).access (slotR (slotOf st))).write (Elt F) g (stageV m ρ c (slotOf st)) Finset.univ) : sProp 𝕄)
      = (sLoc c ↦[(slotR (slotOf st)).set]{fullShare} stageAt m ρ c) := pointsTo_congr (written_stage m ρ c (slotOf st) g)
  iapply (wp_store (defs := defs₀ (F := F)) 𝒱₀ (c : Thread nD τ) none Set.univ (m := sM) (r := slotR (slotOf st)) (w := stageV m ρ c (slotOf st))
    (Mk := Finset.univ) (hx := hx) (hm := hm) hset (f := g) (k := kont) (Q := Q)) $$ [Hb]
  · iexact Hb
  iintro Hb
  iapply H
  isplitr; · iexact Hi
  isplitl [Hx]; · iexact Hx
  isplitl [HF]; · iexact HF
  isplitl [HS Hb Hit]
  · iapply HS
    rw [hs']
    isplitl [Hb]
    · iapply (Entails.of_eq hland) $$ Hb
    iexact Hit
  isplitl [HR]; · iexact HR
  isplitl [HO]; · iexact HO
  iexact Howe

/-- The next piece sent. -/
theorem step_send (h1 : 1 ≤ k) (hv : v ≤ k) (hst : k < st) (h32 : k < 32) {n : Dev nD} (hn : n = c + slotOf k)
    {src : Memref sig .tc .vmem S128x256 .bf16} {dst : Memref sig .tc .vmem S128x256 .bf16} {sS sR : DmaSem sig}
    {hsc : dst.view.ref.isScScratch = false}
    {e1 : src.view.WordExact} {e2 : dst.view.WordExact}
    {e3 : DmaTarget.Typed .vmem (.dma sR) (.remote (Dev.tc n : Thread nD τ) dst (.dma sS) hsc : DmaTarget nD τ sig .tc .vmem S128x256 .bf16)}
    {kont : PUnit → Prog (TpuEff nD τ sig (Elt F) Λ₀ .tc) α}
    (hsrc : src = stageM (slotOf k)) (hdst : dst = inboxM c) (hsS : sS = sendS (slotOf k)) (hsR : sR = recvS c)
    (H : St m ρ K c f w r st (k + 1) v a b ⊢ WP c (kont PUnit.unit) Q) :
    St m ρ K c f w r st k v a b
      ⊢ WP c (.op (.enqueueDma src (.remote (Dev.tc n : Thread nD τ) dst (.dma sS) hsc) (.dma sR) e1 e2 e3) kont) Q := by
  subst hsrc hdst hsS hsR hn
  have hd : slotOf k ≠ 0 := ne_zero h1 h32
  have hs : (sendItem m ρ c st (k + 1) v (slotOf k)) = iprop(cred (tallyAt (sendCell c (slotOf k)) () N) ∗ atPos ER (sendCell c (slotOf k)) 0 ∅ 0) := by
    unfold sendItem; rw [slotOf_lt h32, if_neg (by omega), if_pos (by omega)]
  unfold St at H ⊢
  iintro ⟨#Hi, Hx, HF, HS, HR, HO, ⟨%W, Howe⟩⟩
  have hsame : ∀ j, j ≠ slotOf k → sendItem m ρ c st k v j = sendItem m ρ c st (k + 1) v j := fun j hj => by
    have := val_ne h32 hj
    unfold sendItem
    simp only [show (j.val < k + 1) = (j.val < k) from propext (by omega)]
  ihave HS := (lane_open (i := slotOf k) (Ψ := sendItem m ρ c st (k + 1) v) (mem_D1 h1 h32) hsame) $$ HS
  icases HS with ⟨Hit, HS⟩
  have hs₀ : sendItem m ρ c st k v (slotOf k)
      = iprop((sLoc c ↦[(slotR (slotOf k)).set]{fullShare} stageAt m ρ c)
        ∗ atPos ER (sendCell c (slotOf k)) 0 ∅ 0 ∗ dutyTok ER (sendCell c (slotOf k)) 0 (0 : Fin 32)
        ∗ dutyTok ER (recvCell (c + slotOf k) c) 0 (0 : Fin 32)
        ∗ ∃ g, iLoc (c + slotOf k) ↦[(slotR c).set]{fullShare} g) := by
    unfold sendItem; rw [slotOf_lt h32, if_neg (by omega), if_neg (by omega), if_pos hst]
  ihave Hit := (Entails.of_eq hs₀) $$ Hit
  icases Hit with ⟨Hb, Hat, Hts, Htr, ⟨%g, Hp⟩⟩
  have hd1 : (0 : Fin 32) ∈ (exRd (F := F) m ρ).duties (sendCell c (slotOf k)) 0 := by
    rw [duties_send m ρ c _ hd]; exact Finset.mem_singleton_self _
  have hd2 : (0 : Fin 32) ∈ (exRd (F := F) m ρ).duties (recvCell (c + slotOf k) c) 0 := by
    rw [duties_recv m ρ _ _ (add_ne_self c _ hd)]; exact Finset.mem_singleton_self _
  have hO : OR c k = OR c (k + 1) + tallyAt (recvCell (c + slotOf k) c) () N := OR_step c k (slotOf k) hd (slotOf_lt h32)
  have hp1 : (((stageM (slotOf k)).view.loc (c : Thread nD τ) ↦[(stageM (slotOf k)).view.set]{fullShare} stageAt m ρ c) : sProp 𝕄)
      ⊢ (exRd (F := F) m ρ).payload (sendCell c (slotOf k)) 0 (0 : Fin 32) := by
    rw [payload_send, set_stageM]
    unfold sendPay
    iintro H
    iexists (stageAt m ρ c)
    iexact H
  have hp2 : (((inboxM c).view.loc ((c + slotOf k : Dev nD) : Thread nD τ) ↦[(inboxM c).view.set]{fullShare}
        ((inboxM c).view.write (Elt F) g ((stageM (slotOf k)).view.read (Elt F) (stageAt m ρ c)) Finset.univ)) : sProp 𝕄)
      ⊢ (exRd (F := F) m ρ).payload (recvCell (c + slotOf k) c) 0 (0 : Fin 32) := by
    rw [payload_recv, set_inboxM]
    exact Entails.of_eq (pointsTo_congr (landed_slot m ρ c (slotOf k) g))
  iapply (Rounds.wp_send_pointsTo 𝒱₀ ER (exRd m ρ) (c : Thread nD τ) none (c' := ((c + slotOf k : Dev nD) : Thread nD τ))
    (src := stageM (slotOf k)) (dst := inboxM c) (hsc := hsc) (sS := .dma (sendS (slotOf k))) (sem := .dma (recvS c))
    (κ₁ := K (c, some (false, slotOf k))) (κ₂ := K (c + slotOf k, some (true, c)))
    (r₁ := 0) (r₂ := 0) (d₁ := (0 : Fin 32)) (d₂ := (0 : Fin 32)) (fs := stageAt m ρ c) (fd := g) (q := fullShare)
    hd1 hd2 () () N (credit_slot c) (amount_send m ρ c (slotOf k) 0) (amount_recv m ρ (c + slotOf k) c 0) (OR c (k + 1)) hO (W := W)
    hp1 hp2 (k := kont) (Q := Q)) $$ [Hb Hts Htr Hp Howe]
  · isplitr; · iapply (invs_cell m ρ K (c, some (false, slotOf k))) $$ Hi
    isplitr; · iapply (invs_cell m ρ K (c + slotOf k, some (true, c))) $$ Hi
    rw [set_stageM, set_inboxM]
    isplitl [Hb]; · iexact Hb
    isplitl [Hp]; · iexact Hp
    isplitl [Howe]; · iexact Howe
    isplitl [Hts]; · iexact Hts
    isplitr; · iapply (invs_reached m ρ K (c, some (false, slotOf k))) $$ Hi
    isplitl [Htr]; · iexact Htr
    iapply (invs_reached m ρ K (c + slotOf k, some (true, c))) $$ Hi
  iintro ⟨Hc, Howe⟩
  iapply H
  isplitr; · iexact Hi
  isplitl [Hx]; · iexact Hx
  isplitl [HF]; · iexact HF
  isplitl [HS Hc Hat]
  · iapply HS
    rw [hs]
    isplitl [Hc]; · iexact Hc
    iexact Hat
  isplitl [HR]; · iexact HR
  isplitl [HO]; · iexact HO
  iexists W
  iexact Howe

/-- The next send waited for: its stage slot back. -/
theorem step_sent (h1 : 1 ≤ v) (hv : v < k) (h32 : v < 32)
    {src dst : Memref sig .tc .vmem S128x256 .bf16} {sem : DmaSem sig} {e1 : src.view.WordExact} {e2 : dst.view.WordExact}
    {kont : PUnit → Prog (TpuEff nD τ sig (Elt F) Λ₀ .tc) α}
    (hdst : dst = stageM (slotOf v)) (hsem : sem = sendS (slotOf v))
    (H : St m ρ K c f w r st k (v + 1) a b ⊢ WP c (kont PUnit.unit) Q) :
    St m ρ K c f w r st k v a b ⊢ WP c (.op (.waitDma2 sem src dst e1 e2) kont) Q := by
  subst hdst hsem
  have hd : slotOf v ≠ 0 := ne_zero h1 h32
  have hs : (sendItem m ρ c st k v (slotOf v)) = iprop(cred (tallyAt (sendCell c (slotOf v)) () N) ∗ atPos ER (sendCell c (slotOf v)) 0 ∅ 0) := by
    unfold sendItem; rw [slotOf_lt h32, if_neg (by omega), if_pos (by omega)]
  have hs' : (sendItem m ρ c st k (v + 1) (slotOf v))
      = iprop((∃ g, sLoc c ↦[(slotR (slotOf v)).set]{fullShare} g) ∗ atPos ER (sendCell c (slotOf v)) 1 ∅ 0) := by
    unfold sendItem; rw [slotOf_lt h32, if_pos (by omega)]
  unfold St at H ⊢
  iintro ⟨#Hi, Hx, HF, HS, HR, HO, ⟨%W, Howe⟩⟩
  have hsame : ∀ j, j ≠ slotOf v → sendItem m ρ c st k v j = sendItem m ρ c st k (v + 1) j := fun j hj => by
    have := val_ne h32 hj
    unfold sendItem
    simp only [show (j.val < v + 1) = (j.val < v) from propext (by omega)]
  ihave HS := (lane_open (i := slotOf v) (Ψ := sendItem m ρ c st k (v + 1)) (mem_D1 h1 h32) hsame) $$ HS
  icases HS with ⟨Hit, HS⟩
  ihave Hit := (Entails.of_eq hs) $$ Hit
  icases Hit with ⟨Hc, Hat⟩
  have hlt : (sendS (slotOf v)).val < 38 := by
    have := (slotOf v).isLt
    show 6 + (slotOf v).val < 38; omega
  have hex : 0 + N = (exRd (F := F) m ρ).expect (sendCell c (slotOf v)) 0 := by rw [Nat.zero_add, expect_send m ρ c _ hd]
  iapply (Rounds.wp_wait_rest_token 𝒱₀ ER (exRd m ρ) (c : Thread nD τ) none (κ := K (c, some (false, slotOf v)))
      (w := .waitDma2 (sendS (slotOf v)) src (stageM (slotOf v)) e1 e2)
      (wpE_waitDma2_eq 𝒱₀ (c : Thread nD τ) none Set.univ) (Set.mem_univ _) () (O := OR c k) (W := W) (R := 0) (m := 0) (T := ∅)
      hex (k := kont) (Q := Q)) $$ [Hc Howe Hat]
  · isplitr; · iapply (invs_cell m ρ K (c, some (false, slotOf v))) $$ Hi
    isplitl [Hc]; · iexact Hc
    isplitl [Howe]; · iexact Howe
    isplitr; · iapply ((invs_lev m ρ K).trans (mayWait_low c (sendS (slotOf v)) hlt k)) $$ Hi
    iexact Hat
  iintro ⟨Howe, Hat, -, Hpay⟩
  ihave Hpay := (Entails.of_eq (rest_send m ρ c (slotOf v) hd)) $$ Hpay
  unfold sendPay
  iapply H
  isplitr; · iexact Hi
  isplitl [Hx]; · iexact Hx
  isplitl [HF]; · iexact HF
  isplitl [HS Hpay Hat]
  · iapply HS
    rw [hs']
    isplitl [Hpay]; · iexact Hpay
    iexact Hat
  isplitl [HR]; · iexact HR
  isplitl [HO]; · iexact HO
  iexists (insert (SemLoc.dma (sendS (slotOf v)), ()) W)
  iexact Howe

/-! ## The arrivals -/

/-- The next arrival waited for. -/
theorem step_recv (h1 : 1 ≤ a) (ha : a < k) (h32 : a < 32)
    {src dst : Memref sig .tc .vmem S128x256 .bf16} {sem : DmaSem sig} {e1 : src.view.WordExact} {e2 : dst.view.WordExact}
    {kont : PUnit → Prog (TpuEff nD τ sig (Elt F) Λ₀ .tc) α}
    (hdst : dst = inboxM (c - slotOf a)) (hsem : sem = recvS (c - slotOf a))
    (H : St m ρ K c f w r st k v (a + 1) b ⊢ WP c (kont PUnit.unit) Q) :
    St m ρ K c f w r st k v a b ⊢ WP c (.op (.waitDma2 sem src dst e1 e2) kont) Q := by
  subst hdst hsem
  have hd : slotOf a ≠ 0 := ne_zero h1 h32
  have hs : (recvItem m ρ c a (slotOf a)) = iprop(cred (tallyAt (recvCell c (c - slotOf a)) () N) ∗ atPos ER (recvCell c (c - slotOf a)) 0 ∅ 0) := by
    unfold recvItem; rw [slotOf_lt h32, if_neg (by omega)]
  have hs' : (recvItem m ρ c (a + 1) (slotOf a))
      = iprop((iLoc c ↦[(slotR (c - slotOf a)).set]{fullShare} inboxAt m ρ c) ∗ atPos ER (recvCell c (c - slotOf a)) 1 ∅ 0) := by
    unfold recvItem; rw [slotOf_lt h32, if_pos (by omega)]
  unfold St at H ⊢
  iintro ⟨#Hi, Hx, HF, HS, HR, HO, ⟨%W, Howe⟩⟩
  have hsame : ∀ j, j ≠ slotOf a → recvItem m ρ c a j = recvItem m ρ c (a + 1) j := fun j hj => by
    have := val_ne h32 hj
    unfold recvItem
    simp only [show (j.val < a + 1) = (j.val < a) from propext (by omega)]
  ihave HR := (lane_open (i := slotOf a) (Ψ := recvItem m ρ c (a + 1)) (mem_D1 h1 h32) hsame) $$ HR
  icases HR with ⟨Hit, HR⟩
  ihave Hit := (Entails.of_eq hs) $$ Hit
  icases Hit with ⟨Hc, Hat⟩
  have hex : 0 + N = (exRd (F := F) m ρ).expect (recvCell c (c - slotOf a)) 0 := by
    rw [Nat.zero_add, expect_recv m ρ c _ (sub_ne_self c _ hd)]
  have hlt : (slotOf a).val < k := by rw [slotOf_lt h32]; exact ha
  iapply (Rounds.wp_wait_rest_token 𝒱₀ ER (exRd m ρ) (c : Thread nD τ) none (κ := K (c, some (true, c - slotOf a)))
      (w := .waitDma2 (recvS (c - slotOf a)) src (inboxM (c - slotOf a)) e1 e2)
      (wpE_waitDma2_eq 𝒱₀ (c : Thread nD τ) none Set.univ) (Set.mem_univ _) () (O := OR c k) (W := W) (R := 0) (m := 0) (T := ∅)
      hex (k := kont) (Q := Q)) $$ [Hc Howe Hat]
  · isplitr; · iapply (invs_cell m ρ K (c, some (true, c - slotOf a))) $$ Hi
    isplitl [Hc]; · iexact Hc
    isplitl [Howe]; · iexact Howe
    isplitr; · iapply ((invs_lev m ρ K).trans (mayWait_recv c (slotOf a) k hlt)) $$ Hi
    iexact Hat
  iintro ⟨Howe, Hat, -, Hpay⟩
  ihave Hpay := (Entails.of_eq (rest_recv m ρ c (c - slotOf a) (sub_ne_self c _ hd))) $$ Hpay
  unfold recvPay
  iapply H
  isplitr; · iexact Hi
  isplitl [Hx]; · iexact Hx
  isplitl [HF]; · iexact HF
  isplitl [HS]; · iexact HS
  isplitl [HR Hpay Hat]
  · iapply HR
    rw [hs']
    isplitl [Hpay]; · iexact Hpay
    iexact Hat
  isplitl [HO]; · iexact HO
  iexists (insert (SemLoc.dma (recvS (c - slotOf a)), ()) W)
  iexact Howe

/-- The next arrival loaded. -/
theorem step_take (h1 : 1 ≤ b) (hb : b < a) (h32 : b < 32) {off : Fin 3 → ℕ}
    {inb : ∀ a, off a + S1x128x256.size a ≤ S32x128x256.size a}
    {hl : (iM).view.LoadsAt (Rect.unit (s := S32x128x256) off S1x128x256.size inb).toLoadRect}
    {kont : Vec F S1x128x256 .bf16 → Prog (TpuEff nD τ sig (Elt F) Λ₀ .tc) α}
    (hoff : off = ![(c - slotOf b).val, 0, 0])
    (H : St m ρ K c f w r st k v a b ⊢ WP c (kont (inboxV m ρ c (c - slotOf b))) Q) :
    St m ρ K c f w r st k v a b
      ⊢ WP c (.op (.load iM (Rect.unit (s := S32x128x256) off S1x128x256.size inb).toLoadRect hl) kont) Q := by
  subst hoff
  have hs : (recvItem m ρ c a (slotOf b))
      = iprop((iLoc c ↦[(slotR (c - slotOf b)).set]{fullShare} inboxAt m ρ c) ∗ atPos ER (recvCell c (c - slotOf b)) 1 ∅ 0) := by
    unfold recvItem; rw [slotOf_lt h32, if_pos hb]
  unfold St at H ⊢
  iintro ⟨#Hi, Hx, HF, HS, HR, HO, Howe⟩
  ihave HR := (lane_open (i := slotOf b) (Ψ := recvItem m ρ c a) (mem_D1 h1 h32) (fun _ _ => rfl)) $$ HR
  icases HR with ⟨Hit, HR⟩
  ihave Hit := (Entails.of_eq hs) $$ Hit
  icases Hit with ⟨Hb, Hat⟩
  iapply (wp_load_rect (defs := defs₀ (F := F)) 𝒱₀ (c : Thread nD τ) none Set.univ (m := iM) (r := slotR (c - slotOf b))
    (hl := hl) (set_access_inbox _).subset (f := inboxAt m ρ c) (q := fullShare) (k := kont) (Q := Q)) $$ [Hb]
  · iexact Hb
  iintro Hb
  rw [read_inbox m ρ c (c - slotOf b)]
  iapply H
  isplitr; · iexact Hi
  isplitl [Hx]; · iexact Hx
  isplitl [HF]; · iexact HF
  isplitl [HS]; · iexact HS
  isplitl [HR Hb Hat]
  · iapply HR
    rw [hs]
    isplitl [Hb]; · iexact Hb
    iexact Hat
  isplitl [HO]; · iexact HO
  iexact Howe

/-! ## The result -/

theorem outItem_todo (hb : b < 32) : outItem m ρ c b (slotOf b) = iprop(∃ g, oLoc c ↦[(rowsR (c - slotOf b)).set]{fullShare} g) := by
  unfold outItem; rw [slotOf_lt hb, if_neg (by omega)]

/-- A row block of the result read before it is written: whatever it holds. -/
theorem step_glance (hb : b < 32) {off : Fin 2 → ℕ}
    {inb : ∀ a, off a + S128x256.size a ≤ S4096x256.size a}
    {hl : (oM).view.LoadsAt (Rect.unit (s := S4096x256) off S128x256.size inb).toLoadRect}
    {kont : Vec F S128x256 .f32 → Prog (TpuEff nD τ sig (Elt F) Λ₀ .tc) α}
    (hoff : off = ![128 * (c - slotOf b).val, 0])
    (H : ∀ x, St m ρ K c f w r st k v a b ⊢ WP c (kont x) Q) :
    St m ρ K c f w r st k v a b
      ⊢ WP c (.op (.load oM (Rect.unit (s := S4096x256) off S128x256.size inb).toLoadRect hl) kont) Q := by
  subst hoff
  unfold St at H ⊢
  iintro ⟨#Hi, Hx, HF, HS, HR, HO, Howe⟩
  ihave HO := (lane_open (i := slotOf b) (Ψ := outItem m ρ c b) (Finset.mem_univ _) (fun _ _ => rfl)) $$ HO
  icases HO with ⟨Hit, HO⟩
  ihave Hit := (Entails.of_eq (outItem_todo hb)) $$ Hit
  icases Hit with ⟨%g, Hb⟩
  iapply (wp_load_rect (defs := defs₀ (F := F)) 𝒱₀ (c : Thread nD τ) none Set.univ (m := oM) (r := rowsR (c - slotOf b))
    (hl := hl) (set_access_rows _).subset (f := g) (q := fullShare) (k := kont) (Q := Q)) $$ [Hb]
  · iexact Hb
  iintro Hb
  iapply (H _)
  isplitr; · iexact Hi
  isplitl [Hx]; · iexact Hx
  isplitl [HF]; · iexact HF
  isplitl [HS]; · iexact HS
  isplitl [HR]; · iexact HR
  isplitl [HO Hb]
  · iapply HO
    rw [outItem_todo hb]
    iexists g; iexact Hb
  iexact Howe

/-- The next row block of the result stored. -/
theorem step_out (hb : b < 32) {off : Fin 2 → ℕ}
    {inb : ∀ a, off a + S128x256.size a ≤ S4096x256.size a} {x : FVec F S128x256 .f32}
    {hx : ((oM).access (Rect.unit (s := S4096x256) off S128x256.size inb)).Stores Finset.univ} {hm}
    {kont : PUnit → Prog (TpuEff nD τ sig (Elt F) Λ₀ .tc) α}
    (hoff : off = ![128 * (c - slotOf b).val, 0]) (hval : x = outV m ρ c (c - slotOf b))
    (H : St m ρ K c f w r st k v a (b + 1) ⊢ WP c (kont PUnit.unit) Q) :
    St m ρ K c f w r st k v a b
      ⊢ WP c (.op (.store oM (Rect.unit (s := S4096x256) off S128x256.size inb) x Finset.univ hx hm) kont) Q := by
  subst hoff hval
  have hs' : outItem m ρ c (b + 1) (slotOf b) = iprop(oLoc c ↦[(rowsR (c - slotOf b)).set]{fullShare} outAt m ρ c) := by
    unfold outItem; rw [slotOf_lt hb, if_pos (by omega)]
  unfold St at H ⊢
  iintro ⟨#Hi, Hx, HF, HS, HR, HO, Howe⟩
  have hsame : ∀ j, j ≠ slotOf b → outItem m ρ c b j = outItem m ρ c (b + 1) j := fun j hj => by
    have := val_ne hb hj
    unfold outItem
    simp only [show (j.val < b + 1) = (j.val < b) from propext (by omega)]
  ihave HO := (lane_open (i := slotOf b) (Ψ := outItem m ρ c (b + 1)) (Finset.mem_univ _) hsame) $$ HO
  icases HO with ⟨Hit, HO⟩
  ihave Hit := (Entails.of_eq (outItem_todo hb)) $$ Hit
  icases Hit with ⟨%g, Hb⟩
  have hset : ((oM).access (rowsR (c - slotOf b))).setOn Finset.univ ⊆ (rowsR (c - slotOf b)).set := (set_access_rows _).subset
  have hland : ((oLoc c ↦[(rowsR (c - slotOf b)).set]{fullShare} ((oM).access (rowsR (c - slotOf b))).write (Elt F) g (outV m ρ c (c - slotOf b)) Finset.univ) : sProp 𝕄)
      = (oLoc c ↦[(rowsR (c - slotOf b)).set]{fullShare} outAt m ρ c) := pointsTo_congr (written_rows m ρ c (c - slotOf b) g)
  iapply (wp_store (defs := defs₀ (F := F)) 𝒱₀ (c : Thread nD τ) none Set.univ (m := oM) (r := rowsR (c - slotOf b)) (w := outV m ρ c (c - slotOf b))
    (Mk := Finset.univ) (hx := hx) (hm := hm) hset (f := g) (k := kont) (Q := Q)) $$ [Hb]
  · iexact Hb
  iintro Hb
  iapply H
  isplitr; · iexact Hi
  isplitl [Hx]; · iexact Hx
  isplitl [HF]; · iexact HF
  isplitl [HS]; · iexact HS
  isplitl [HR]; · iexact HR
  isplitl [HO Hb]
  · iapply HO
    rw [hs']
    iapply (Entails.of_eq hland) $$ Hb
  iexact Howe

end Steps

end Cert.KernelIdeal.Exchange
-- ==== Proof.Run.KernelIdeal.Body.lean ====
/-
The body of one device run from its entry barrier to its last send wait, by the steps' lemmas.
-/
module

public import proofs.«01_k».proof.Proof.Run.KernelIdeal.Steps

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The addressed devices, and the values stored -/

/-- The device `v` further on than `c`, as the kernel computes it. -/
def dest (c : Dev nD) (v : BitVec 32) : ℕ :=
  let l := Scalar.remsi (Scalar.divsi (Dev.word c) 1#32) 32#32
  let a := Scalar.addi l v
  let n := Scalar.select (Scalar.cmpi .eq 32#32 0#32) 1#32 32#32
  let r := Scalar.remsi a n
  let b := Scalar.andi (Scalar.xori (Scalar.cmpi .slt r 0#32) (Scalar.cmpi .slt n 0#32)) (Scalar.cmpi .ne r 0#32)
  (Scalar.addi 0#32 (Scalar.muli (Scalar.select b (Scalar.addi r n) r) 1#32)).toNat
theorem dest_tab : ∀ c d : Fin 32, dest c (BitVec.ofNat 32 d.val) = (c + d).val := by decide +kernel
theorem dest_eq (c : Dev nD) (n : ℕ) (hn : n < 32) {x : ℕ} {hx : x < nD} (h : x = dest c (BitVec.ofNat 32 n)) :
    (⟨x, hx⟩ : Dev nD) = c + slotOf n := by
  have e := dest_tab c (slotOf n); rw [slotOf_lt hn] at e
  exact Fin.ext (h.trans e)

theorem stageV_even (c : Dev nD) (d : Fin 32) (h : d.val % 2 = 0) : k0_pay6 (xv m ρ c) (wslot m c (phase d)) = stageV m ρ c d :=
  (if_pos h).symm
theorem stageV_odd (c : Dev nD) (d : Fin 32) (h : ¬ d.val % 2 = 0) : k0_pay7 (prod m ρ c (phase d)) = stageV m ρ c d :=
  (if_neg h).symm
theorem outV_own (c : Dev nD) : k0_pay3 (xv m ρ c) (wslot m c 0) = outV m ρ c (c - slotOf 0) := by
  have h : c - slotOf 0 = c := by revert c; decide
  rw [h]; exact (if_pos rfl).symm
theorem outV_other (c : Dev nD) (h : Fin 32) (h0 : h ≠ 0) : k0_pay17 (inboxV m ρ c (c - h)) = outV m ρ c (c - h) :=
  (if_neg (sub_ne_self c h h0)).symm

theorem own_rows (c : Dev nD) : k0_off2 c = ![128 * (c - slotOf 0).val, 0] := by
  have h : c - slotOf 0 = c := by revert c; decide
  rw [h, k0_off2_eq]

/-! ## The run -/

variable {m ρ} {K : Dev nD × KC → ℕ} {c : Dev nD}

theorem bind_intro {α β : Type} {p : Prog (TpuEff nD τ sig (Elt F) Λ₀ .tc) α} {k : α → Prog (TpuEff nD τ sig (Elt F) Λ₀ .tc) β}
    {P : sProp (MT nD τ sig Unit (Elt F) ℕ UU ℕ)} {Q : β → sProp (MT nD τ sig Unit (Elt F) ℕ UU ℕ)}
    (H : ∀ Q' : α → sProp (MT nD τ sig Unit (Elt F) ℕ UU ℕ), (Q' = fun a => WP c (k a) Q) → P ⊢ WP c p Q') : P ⊢ WP c (p >>= k) Q := by
  unfold WP at H ⊢
  rw [wp_bind]
  exact H _ rfl
theorem ret_intro {α : Type} {a : α} {P : sProp (MT nD τ sig Unit (Elt F) ℕ UU ℕ)} {Q : α → sProp (MT nD τ sig Unit (Elt F) ℕ UU ℕ)}
    (H : P ⊢ Q a) : P ⊢ WP c (.ret a) Q :=
  H.trans (le_wp_ret _ _ _ a Q)

set_option maxHeartbeats 20000000 in
/-- The body, from the state at the entry barrier's end to the last send wait, when the part holding the barrier reaches it. -/
theorem body_run {h0 : (xM).IsWhole} {h1 : (wM).IsWhole} {h2 : (oM).IsWhole} {h3 : (bM).IsWhole} {h4 : (sM).IsWhole} {h5 : (iM).IsWhole} {P : sProp (MT nD τ sig Unit (Elt F) ℕ UU ℕ)} {Q : PUnit → sProp (MT nD τ sig Unit (Elt F) ℕ UU ℕ)}
    (H1 : ∀ Q, (∀ x₁ x₂ x₃ x₄ x₅, St m ρ K c 1 0 0 1 1 1 1 0 ⊢ Q ⟨c, x₁, x₂, x₃, x₄, x₅⟩) → P ⊢ WP c (k0_part1 xM h0 wM h1 oM h2 bM h3 sM h4 iM h5 cc0_scratch3 cc0_scratch4 cc0_scratch5) Q)
    (H : St m ρ K c 32 32 32 32 32 32 32 32 ⊢ Q PUnit.unit) :
    P ⊢ WP c (cc0_body xM h0 wM h1 oM h2 bM h3 sM h4 iM h5 cc0_scratch3 cc0_scratch4 cc0_scratch5) Q := by
  rw [cc0_body_eq_skeleton]
  unfold cc0_body_skel
  refine bind_intro fun Q₁ hQ₁ => ?_
  rw [k0_part93_eq_skeleton]
  unfold k0_part93_skel
  refine bind_intro fun Q' hQ' => H1 Q' fun x₁ x₂ x₃ x₄ x₅ => ?_
  subst hQ'
  dsimp only
  repeat
    first
    | with_reducible refine bind_intro fun Q' hQ' => ?_
      simp only [k0_part2_eq_skeleton, k0_part2_skel, k0_part3_eq_skeleton, k0_part3_skel, k0_part4_eq_skeleton, k0_part4_skel, k0_part5_eq_skeleton, k0_part5_skel,
        k0_part6_eq_skeleton, k0_part6_skel, k0_part7_eq_skeleton, k0_part7_skel, k0_part8_eq_skeleton, k0_part8_skel, k0_part9_eq_skeleton, k0_part9_skel,
        k0_part10_eq_skeleton, k0_part10_skel, k0_part11_eq_skeleton, k0_part11_skel, k0_part12_eq_skeleton, k0_part12_skel, k0_part13_eq_skeleton,
        k0_part13_skel, k0_part14_eq_skeleton, k0_part14_skel, k0_part15_eq_skeleton, k0_part15_skel, k0_part16_eq_skeleton, k0_part16_skel,
        k0_part17_eq_skeleton, k0_part17_skel, k0_part18_eq_skeleton, k0_part18_skel, k0_part19_eq_skeleton, k0_part19_skel, k0_part20_eq_skeleton,
        k0_part20_skel, k0_part21_eq_skeleton, k0_part21_skel, k0_part22_eq_skeleton, k0_part22_skel, k0_part23_eq_skeleton, k0_part23_skel,
        k0_part24_eq_skeleton, k0_part24_skel, k0_part25_eq_skeleton, k0_part25_skel, k0_part26_eq_skeleton, k0_part26_skel, k0_part27_eq_skeleton,
        k0_part27_skel, k0_part28_eq_skeleton, k0_part28_skel, k0_part29_eq_skeleton, k0_part29_skel, k0_part30_eq_skeleton, k0_part30_skel,
        k0_part31_eq_skeleton, k0_part31_skel, k0_part32_eq_skeleton, k0_part32_skel, k0_part33_eq_skeleton, k0_part33_skel, k0_part34_eq_skeleton,
        k0_part34_skel, k0_part35_eq_skeleton, k0_part35_skel, k0_part36_eq_skeleton, k0_part36_skel, k0_part37_eq_skeleton, k0_part37_skel,
        k0_part38_eq_skeleton, k0_part38_skel, k0_part39_eq_skeleton, k0_part39_skel, k0_part40_eq_skeleton, k0_part40_skel, k0_part41_eq_skeleton,
        k0_part41_skel, k0_part42_eq_skeleton, k0_part42_skel, k0_part43_eq_skeleton, k0_part43_skel, k0_part44_eq_skeleton, k0_part44_skel,
        k0_part45_eq_skeleton, k0_part45_skel, k0_part46_eq_skeleton, k0_part46_skel, k0_part47_eq_skeleton, k0_part47_skel, k0_part48_eq_skeleton,
        k0_part48_skel, k0_part49_eq_skeleton, k0_part49_skel, k0_part50_eq_skeleton, k0_part50_skel, k0_part51_eq_skeleton, k0_part51_skel,
        k0_part52_eq_skeleton, k0_part52_skel, k0_part53_eq_skeleton, k0_part53_skel, k0_part54_eq_skeleton, k0_part54_skel, k0_part55_eq_skeleton,
        k0_part55_skel, k0_part56_eq_skeleton, k0_part56_skel, k0_part57_eq_skeleton, k0_part57_skel, k0_part58_eq_skeleton, k0_part58_skel,
        k0_part59_eq_skeleton, k0_part59_skel, k0_part60_eq_skeleton, k0_part60_skel, k0_part61_eq_skeleton, k0_part61_skel, k0_part62_eq_skeleton,
        k0_part62_skel, k0_part63_eq_skeleton, k0_part63_skel, k0_part64_eq_skeleton, k0_part64_skel, k0_part65_eq_skeleton, k0_part65_skel,
        k0_part66_eq_skeleton, k0_part66_skel, k0_part67_eq_skeleton, k0_part67_skel, k0_part68_eq_skeleton, k0_part68_skel, k0_part69_eq_skeleton,
        k0_part69_skel, k0_part70_eq_skeleton, k0_part70_skel, k0_part71_eq_skeleton, k0_part71_skel, k0_part72_eq_skeleton, k0_part72_skel,
        k0_part73_eq_skeleton, k0_part73_skel, k0_part74_eq_skeleton, k0_part74_skel, k0_part75_eq_skeleton, k0_part75_skel, k0_part76_eq_skeleton,
        k0_part76_skel, k0_part77_eq_skeleton, k0_part77_skel, k0_part78_eq_skeleton, k0_part78_skel, k0_part79_eq_skeleton, k0_part79_skel,
        k0_part80_eq_skeleton, k0_part80_skel, k0_part81_eq_skeleton, k0_part81_skel, k0_part82_eq_skeleton, k0_part82_skel, k0_part83_eq_skeleton,
        k0_part83_skel, k0_part84_eq_skeleton, k0_part84_skel, k0_part85_eq_skeleton, k0_part85_skel, k0_part86_eq_skeleton, k0_part86_skel,
        k0_part87_eq_skeleton, k0_part87_skel, k0_part88_eq_skeleton, k0_part88_skel, k0_part89_eq_skeleton, k0_part89_skel, k0_part90_eq_skeleton,
        k0_part90_skel, k0_part91_eq_skeleton, k0_part91_skel, k0_part92_eq_skeleton, k0_part92_skel,
        Prog.lift, Prog.bind_op, Prog.bind_ret, Prog.pure_eq_ret]
    | rw [Prog.pure_eq_ret]
    repeat
      first
          | with_reducible refine step_peek ?_ ?_ ?_ ?_ ?_ (fun x => ?_)
            iterate 4 on_goal 1 => decide
            on_goal 1 => rfl
          | with_reducible refine step_stage ?_ ?_ ?_ ?_ ?_ ?_ ?_
            iterate 4 on_goal 1 => decide
            · rfl
            · first | refine Eq.trans ?_ (stageV_even m ρ _ _ (by decide)); rfl | refine Eq.trans ?_ (stageV_odd m ρ _ _ (by decide)); rfl
          | with_reducible refine step_send ?_ ?_ ?_ ?_ ?_ ?_ ?_ ?_ ?_ ?_
            iterate 4 on_goal 1 => decide
            · exact dest_eq _ _ (by decide) rfl
            · exact stageM_eq _ (by rfl) _ _ _
            · exact inboxM_eq _ (k0_off4_eq _) _ _ _
            · exact sendS_eq _ (by rfl) _ _
            · exact recvS_eq _ (k0_off3_eq _) _ _
          | with_reducible refine step_fetch ?_ ?_ ?_ ?_ ?_ ?_ ?_ ?_
            iterate 4 on_goal 1 => decide
            · exact wcolM_eq _ (off1_eq _ _ (by decide) rfl) _ _
            · exact quarterM_eq _ (by rfl) _ _ _
            · exact fetchS_eq _ (by rfl) _ _
          | with_reducible refine step_fetched ?_ ?_ ?_ ?_ ?_ ?_
            iterate 3 on_goal 1 => decide
            · exact quarterM_eq _ (by rfl) _ _ _
            · exact fetchS_eq _ (by rfl) _ _
          | with_reducible refine step_recv ?_ ?_ ?_ ?_ ?_ ?_
            on_goal 4 => exact inboxM_eq _ (off6_eq _ _ (by decide) rfl) _ _ _
            iterate 3 on_goal 1 => decide
            · exact recvS_eq _ (off5_eq _ _ (by decide) rfl) _ _
          | with_reducible refine step_sent ?_ ?_ ?_ ?_ ?_ ?_
            iterate 3 on_goal 1 => decide
            · exact stageM_eq _ (by rfl) _ _ _
            · exact sendS_eq _ (by rfl) _ _
          | with_reducible refine step_take ?_ ?_ ?_ ?_ ?_
            iterate 3 on_goal 1 => decide
            · exact off7_eq _ _ (by decide) rfl
          | with_reducible refine step_glance ?_ ?_ (fun x => ?_)
            · decide
            · first | with_reducible exact own_rows _ | exact off8_eq _ _ (by decide) rfl
          | with_reducible refine step_out ?_ ?_ ?_ ?_
            · decide
            · first | with_reducible exact own_rows _ | exact off8_eq _ _ (by decide) rfl
            · first | refine Eq.trans ?_ (outV_other m ρ _ _ (by decide)); rfl | refine Eq.trans ?_ (outV_own m ρ _); rfl
          | with_reducible refine step_slot ?_ ?_ ?_ ?_ ?_ ?_
            iterate 4 on_goal 1 => decide
            · rfl
          | with_reducible refine step_x ?_
    refine ret_intro ?_
    first
    | subst hQ'
    | subst hQ₁
    dsimp only [Nat.reduceAdd]
  rw [Prog.pure_eq_ret]
  exact ret_intro H

end Cert.KernelIdeal.Exchange

end

end
-- ==== Proof.Run.KernelIdeal.Entry.lean ====
/-
The entry barrier: every device tells every other that it may write into its inbox, and waits for all of them.
-/
module

public import proofs.«01_k».proof.Proof.Run.KernelIdeal.Body
public import Idealize.ShloMosaic.Lib.SparseCore.Launch
public import Idealize.ShloMosaic.Lib.Scf

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The state before the barrier -/

/-- What a device pays the barrier cell of the device at distance `d` with: the slot of its inbox that device writes. -/
def barItem (c : Dev nD) (t : ℕ) (d : Fin 32) : sProp 𝕄 :=
  if d.val < t then iprop(emp)
  else iprop(dutyTok ER (barCell (c + d)) 0 (c : Fin 32) ∗ ∃ g, iLoc c ↦[(slotR (c + d)).set]{fullShare} g)
/-- What a device holds of the piece for distance `d` before the barrier: all but the slot it lands in. -/
def preItem (c : Dev nD) (d : Fin 32) : sProp 𝕄 :=
  iprop((∃ g, sLoc c ↦[(slotR d).set]{fullShare} g) ∗ atPos ER (sendCell c d) 0 ∅ 0
    ∗ dutyTok ER (sendCell c d) 0 (0 : Fin 32) ∗ dutyTok ER (recvCell (c + d) c) 0 (0 : Fin 32))

variable (K : Dev nD × KC → ℕ)

/-- The signals below `t` made. -/
def Sig (c : Dev nD) (t : ℕ) : sProp 𝕄 :=
  iprop(invs m ρ K ∗ bigSep D1 (barItem c t) ∗ ∃ W, owes (c : Thread nD τ) (OR c 1 + OB c t) W)
/-- The state a device enters with. -/
def Start (c : Dev nD) : sProp 𝕄 :=
  iprop(invs m ρ K ∗ (xLoc c ↦{fullShare} xstg m ρ c)
    ∗ (cred (tallyAt (barCell c) () 31) ∗ atPos ER (barCell c) 0 ∅ 0)
    ∗ bigSep (Finset.range 36) (fetchItem m c 0 0 0)
    ∗ (bigSep D1 (preItem c) ∗ bigSep D1 (barItem c 1))
    ∗ bigSep D1 (recvItem m ρ c 1)
    ∗ bigSep Finset.univ (outItem m ρ c 0)
    ∗ ∃ W, owes (c : Thread nD τ) (OR c 1 + OB c 1) W)

variable {m ρ K} {c : Dev nD}

/-- The slots the barrier hands over, by distance, complete the pieces. -/
theorem bar_items : (bigSep (Finset.univ.erase c) (fun p => barPay (F := F) c p) : sProp 𝕄) = bigSep D1 (fun d => barPay c (c + d)) := by
  have hf : ∀ c p : Fin 32, p ≠ c → p - c ≠ 0 ∧ c + (p - c) = p := by decide
  have hinj : ∀ c a b : Fin 32, c + a = c + b → a = b := by decide
  have himg : (Finset.univ.erase c : Finset (Fin 32)) = D1.image (fun d => c + d) := by
    ext p
    simp only [Finset.mem_erase, Finset.mem_univ, and_true, Finset.mem_image]
    constructor
    · intro h
      exact ⟨p - c, (hf c p h).1, (hf c p h).2⟩
    · rintro ⟨d, hd, rfl⟩
      exact (add_ne_self c d hd).symm
  exact (congrArg (fun s : Finset (Fin 32) => (bigSep s (fun p => barPay (F := F) c p) : sProp 𝕄)) himg).trans
    (SparseCore.bigSep_image_of_injOn (fun a _ b _ h => hinj c a b h) _)
theorem send_items :
    iprop(bigSep D1 (preItem (F := F) c) ∗ bigSep D1 (fun d => barPay (F := F) c (c + d))) ⊢ (bigSep D1 (sendItem m ρ c 1 1 1) : sProp 𝕄) := by
  have hone : ∀ d ∈ D1, (iprop(preItem (F := F) c d ∗ barPay (F := F) c (c + d)) : sProp 𝕄) ⊢ sendItem m ρ c 1 1 1 d := fun d hd => by
    have h : 1 ≤ d.val := Nat.pos_of_ne_zero fun h => (Finset.mem_erase.mp hd).1 (Fin.ext h)
    unfold sendItem preItem barPay
    rw [if_neg (by omega), if_neg (by omega), if_neg (by omega)]
    iintro ⟨⟨Hs, Ha, Ht, Hr⟩, ⟨Hg, -⟩⟩
    isplitl [Hs]; · iexact Hs
    isplitl [Ha]; · iexact Ha
    isplitl [Ht]; · iexact Ht
    isplitl [Hr]; · iexact Hr
    iexact Hg
  exact (Entails.of_eq (BI.bigSep_sep D1 _ _).symm).trans (bigSep_mono hone)

/-- One signal. -/
theorem step_signal {n t : ℕ} (h1 : 1 ≤ t) (h32 : t < 32) (hn : n = 1) {p : Dev nD} (hp : p = c + slotOf t) {α : Type}
    {kont : PUnit → Prog (TpuEff nD τ sig (Elt F) Λ₀ .tc) α} {Q : α → sProp (MT nD τ sig Unit (Elt F) ℕ UU ℕ)}
    (H : Sig m ρ K c (t + 1) ⊢ WP c (kont PUnit.unit) Q) :
    Sig m ρ K c t ⊢ WP c (.op (.semSignal (p : Thread nD τ) barS n) kont) Q := by
  subst hn hp
  unfold Sig at H ⊢
  iintro ⟨#Hi, HB, ⟨%W, Howe⟩⟩
  have hd : slotOf t ≠ 0 := ne_zero h1 h32
  have hsame : ∀ j, j ≠ slotOf t → barItem (F := F) c t j = barItem c (t + 1) j := fun j hj => by
    have := val_ne h32 hj
    unfold barItem
    simp only [show (j.val < t + 1) = (j.val < t) from propext (by omega)]
  ihave HB := (lane_open (i := slotOf t) (Ψ := barItem c (t + 1)) (mem_D1 h1 h32) hsame) $$ HB
  icases HB with ⟨Hit, HB⟩
  have hs : barItem (F := F) c t (slotOf t) = iprop(dutyTok ER (barCell (c + slotOf t)) 0 (c : Fin 32) ∗ ∃ g, iLoc c ↦[(slotR (c + slotOf t)).set]{fullShare} g) := by
    unfold barItem; rw [slotOf_lt h32, if_neg (by omega)]
  have hs' : barItem (F := F) c (t + 1) (slotOf t) = iprop(emp) := by
    unfold barItem; rw [slotOf_lt h32, if_pos (by omega)]
  ihave Hit := (Entails.of_eq hs) $$ Hit
  icases Hit with ⟨Ht, Hg⟩
  have hdm : (c : Fin 32) ∈ (exRd (F := F) m ρ).duties (barCell (c + slotOf t)) 0 := by
    rw [duties_bar]; exact Finset.mem_erase.mpr ⟨add_ne_self c _ hd, Finset.mem_univ _⟩
  have hO : OR c 1 + OB c t = (OR c 1 + OB c (t + 1)) + tallyAt (barCell (c + slotOf t)) () 1 := by
    rw [add_assoc, ← OB_step c t (slotOf t) hd (slotOf_lt h32)]
  iapply (Rounds.wp_signal 𝒱₀ ER (exRd m ρ) (c : Thread nD τ) none (dst := ((c + slotOf t : Dev nD) : Thread nD τ)) (sem := barS)
    (κ := K (c + slotOf t, none)) (r := 0) (d := (c : Fin 32)) (k' := 1) hdm (amount_bar m ρ (c + slotOf t) c) () (OR c 1 + OB c (t + 1)) hO (W := W)
    (k := kont) (Q := Q)) $$ [Ht Hg Howe]
  · isplitr; · iapply (invs_cell m ρ K (c + slotOf t, none)) $$ Hi
    isplitl [Howe]; · iexact Howe
    isplitl [Ht]; · iexact Ht
    isplitl [Hg]
    · rw [payload_bar]
      unfold barPay
      isplitl [Hg]; · iexact Hg
      iapply (invs_reached m ρ K (c, some (true, c + slotOf t))) $$ Hi
    iapply (invs_reached m ρ K (c + slotOf t, none)) $$ Hi
  iintro Howe
  iapply H
  isplitr; · iexact Hi
  isplitl [HB]
  · iapply HB
    rw [hs']
    iempintro
  iexists W
  iexact Howe

theorem trips_eq : k0_t1_loop.trips = 31 := by decide
theorem pass_ret {α : Type} {a : α} {P : sProp (MT nD τ sig Unit (Elt F) ℕ UU ℕ)} {Q : α → sProp (MT nD τ sig Unit (Elt F) ℕ UU ℕ)}
    (H : P ⊢ Q a) : P ⊢ WP c (.ret a) Q :=
  H.trans (le_wp_ret _ _ _ a Q)
/-- The addressed device of a trip. -/
theorem trip_dev (t : Fin k0_t1_loop.trips) : (⟨k0_dev1 c t, k0_dev1_lt c t⟩ : Dev nD) = c + slotOf (t.val + 1) := by
  refine Fin.ext ((dev1_tab c t).trans (congrArg (fun d : Fin 32 => (c + d).val) (Fin.ext ?_)))
  show (1 + t.val) % 32 = (t.val + 1) % 32
  rw [Nat.add_comm]

theorem sig_tally {O : CellTallies nD τ sig Unit} : O + OB c 32 = O := by rw [OB_end, add_zero]

/-- The wait for the others' units: every piece's landing slot is there. -/
theorem step_barrier {n : ℕ} (hn : n = 31) {α : Type}
    {kont : PUnit → Prog (TpuEff nD τ sig (Elt F) Λ₀ .tc) α} {Q : α → sProp (MT nD τ sig Unit (Elt F) ℕ UU ℕ)}
    (H : St m ρ K c 0 0 0 1 1 1 1 0 ⊢ WP c (kont PUnit.unit) Q) :
    iprop(invs m ρ K ∗ (xLoc c ↦{fullShare} xstg m ρ c) ∗ (cred (tallyAt (barCell c) () 31) ∗ atPos ER (barCell c) 0 ∅ 0)
      ∗ bigSep (Finset.range 36) (fetchItem m c 0 0 0) ∗ bigSep D1 (preItem (F := F) c) ∗ bigSep D1 (recvItem m ρ c 1)
      ∗ bigSep Finset.univ (outItem m ρ c 0) ∗ Sig m ρ K c 32)
    ⊢ WP c (.op (.semWait barS n) kont) Q := by
  subst hn
  unfold Sig St at *
  rw [sig_tally]
  iintro ⟨#Hi, Hx, ⟨Hc, Hat⟩, HF, HP, HR, HO, ⟨-, -, ⟨%W, Howe⟩⟩⟩
  have hex : 0 + 31 = (exRd (F := F) m ρ).expect (barCell c) 0 := by rw [Nat.zero_add, expect_bar]
  iapply (Rounds.wp_wait_rest_token 𝒱₀ ER (exRd m ρ) (c : Thread nD τ) none (κ := K (c, none)) (w := .semWait barS 31)
      (wpE_semWait_eq 𝒱₀ (c : Thread nD τ) none Set.univ) (Set.mem_univ _) () (O := OR c 1) (W := W) (R := 0) (m := 0) (T := ∅)
      hex (k := kont) (Q := Q)) $$ [Hc Howe Hat]
  · isplitr; · iapply (invs_cell m ρ K (c, none)) $$ Hi
    isplitl [Hc]; · iexact Hc
    isplitl [Howe]; · iexact Howe
    isplitr; · iapply ((invs_lev m ρ K).trans (mayWait_bar c 1)) $$ Hi
    iexact Hat
  iintro ⟨Howe, Hat, -, Hpay⟩
  ihave Hpay := (Entails.of_eq ((rest_bar m ρ c).trans bar_items)) $$ Hpay
  ihave HP := (send_items (m := m) (ρ := ρ) (c := c)) $$ [HP Hpay]
  · isplitl [HP]; · iexact HP
    iexact Hpay
  iapply H
  isplitr; · iexact Hi
  isplitl [Hx Hat]
  · isplitl [Hx]; · iexact Hx
    iexact Hat
  isplitl [HF]; · iexact HF
  isplitl [HP]; · iexact HP
  isplitl [HR]; · iexact HR
  isplitl [HO]; · iexact HO
  iexists (insert (SemLoc.reg barS, ()) W)
  iexact Howe

/-- The part holding the entry barrier and the first fetch. -/
theorem entry {h0 : (xM).IsWhole} {h1 : (wM).IsWhole} {h2 : (oM).IsWhole} {h3 : (bM).IsWhole} {h4 : (sM).IsWhole} {h5 : (iM).IsWhole}
    (Q : (Σ' (d0 : Dev nD) (v2 : BitVec 32) (v24 : BitVec 32) (v25 : BitVec 32) (v26 : BitVec 1), BitVec 1) → sProp (MT nD τ sig Unit (Elt F) ℕ UU ℕ))
    (H : ∀ x₁ x₂ x₃ x₄ x₅, St m ρ K c 1 0 0 1 1 1 1 0 ⊢ Q ⟨c, x₁, x₂, x₃, x₄, x₅⟩) :
    Start m ρ K c ⊢ WP c (k0_part1 xM h0 wM h1 oM h2 bM h3 sM h4 iM h5 cc0_scratch3 cc0_scratch4 cc0_scratch5) Q := by
  simp only [k0_part1_eq_skeleton, k0_part1_skel, Prog.lift, Prog.bind_op, Prog.bind_ret, Prog.pure_eq_ret, semWaitWord, wp_deviceId, WP]
  have hbody : ∀ (k : Fin k0_t1_loop.trips) (acc : Unit), Sig m ρ K c (k.val + 1)
      ⊢ WP c (k0_t1_body xM h0 wM h1 oM h2 bM h3 sM h4 iM h5 cc0_scratch3 cc0_scratch4 cc0_scratch5 c (SemArray.scalar (sig.barrier 0 rfl)) k acc)
        (fun _ => Sig m ρ K c (k.val + 1 + 1)) := fun k acc => by
    have hk : k.val < 31 := k.isLt.trans_eq trips_eq
    simp only [k0_t1_body, semSignalWord, Prog.bind_op, Prog.bind_ret, Prog.pure_eq_ret]
    exact step_signal (by omega) (by omega) rfl (trip_dev k) (pass_ret Entails.rfl)
  unfold Start
  iintro ⟨#Hi, Hx, ⟨Hc, Hat⟩, HF, ⟨HP, HB⟩, HR, HO, ⟨%W, Howe⟩⟩
  iapply (Scf.wp_for_bind (Idealize.ShloMosaic.frame) (wpE (defs₀ (F := F)) 𝒱₀ (c : Thread nD τ) none) Set.univ
    k0_t1_loop.lb k0_t1_loop.ub k0_t1_loop.st k0_t1_ok ⟨⟩ _ (fun t (_ : Unit) => Sig m ρ K c (t + 1)) hbody) $$ [HB Howe]
  · unfold Sig
    isplitr; · iexact Hi
    isplitl [HB]; · iexact HB
    iexists W
    iexact Howe
  iintro %acc HI
  have h32 : Scf.trips k0_t1_loop.lb k0_t1_loop.ub k0_t1_loop.st + 1 = 32 := congrArg (· + 1) trips_eq
  ihave HI := (Entails.of_eq (congrArg (Sig m ρ K c) h32)) $$ HI
  iapply (step_barrier (m := m) (ρ := ρ) (K := K) (c := c) (n := _) rfl ?_)
  · with_reducible refine step_fetch ?_ ?_ ?_ ?_ ?_ ?_ ?_ ?_
    iterate 4 on_goal 1 => decide
    · exact wcolM_eq _ (off1_eq _ _ (by decide) rfl) _ _
    · exact quarterM_eq _ (by rfl) _ _ _
    · exact fetchS_eq _ (by rfl) _ _
    · exact pass_ret (H _ _ _ _ _)
  isplitr; · iexact Hi
  isplitl [Hx]; · iexact Hx
  isplitl [Hc Hat]
  · isplitl [Hc]; · iexact Hc
    iexact Hat
  isplitl [HF]; · iexact HF
  isplitl [HP]; · iexact HP
  isplitl [HR]; · iexact HR
  isplitl [HO]; · iexact HO
  iexact HI

end Cert.KernelIdeal.Exchange

end

end
-- ==== Proof.Run.KernelIdeal.Split.lean ====
/-
The buffers cut into the parts the exchange moves, and put together again.
-/
module

public import proofs.«01_k».proof.Proof.Run.KernelIdeal.Entry
public import Idealize.ShloMosaic.Lib.Ring

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## The parts tile their buffers -/

theorem slot_disjoint (b b' : Fin 32) (h : b ≠ b') : Disjoint (slotR b).set (slotR b').set :=
  Ring.lead_disjoint (s := S32x128x256) 0 1 (fun b => ![b.val, 0, 0]) S1x128x256.size slot_inb (fun b => (Nat.one_mul _).symm) rfl b b' h
theorem slot_cover : Finset.univ.biUnion (fun b => (slotR b).set) = Finset.univ :=
  Ring.lead_cover (s := S32x128x256) 0 1 (fun b => ![b.val, 0, 0]) S1x128x256.size slot_inb (fun b => (Nat.one_mul _).symm)
    (fun b a ha => by fin_cases a <;> first | exact absurd rfl ha | rfl) rfl (fun a ha => by fin_cases a <;> first | exact absurd rfl ha | rfl) rfl
theorem rows_disjoint (b b' : Fin 32) (h : b ≠ b') : Disjoint (rowsR b).set (rowsR b').set :=
  Ring.lead_disjoint (s := S4096x256) 0 128 (fun b => ![128 * b.val, 0]) S128x256.size rows_inb (fun b => rfl) rfl b b' h
theorem rows_cover : Finset.univ.biUnion (fun b => (rowsR b).set) = Finset.univ :=
  Ring.lead_cover (s := S4096x256) 0 128 (fun b => ![128 * b.val, 0]) S128x256.size rows_inb (fun b => rfl)
    (fun b a ha => by fin_cases a <;> first | exact absurd rfl ha | rfl) rfl (fun a ha => by fin_cases a <;> first | exact absurd rfl ha | rfl) rfl
theorem wcol_disjoint (b b' : Fin 32) (h : b ≠ b') : Disjoint (wcolR b).set (wcolR b').set :=
  Ring.lead_disjoint (s := S4096x8192) 1 256 (fun b => ![0, 256 * b.val]) S4096x256.size wcol_inb (fun b => rfl) rfl b b' h
theorem wcol_cover : Finset.univ.biUnion (fun b => (wcolR b).set) = Finset.univ :=
  Ring.lead_cover (s := S4096x8192) 1 256 (fun b => ![0, 256 * b.val]) S4096x256.size wcol_inb (fun b => rfl)
    (fun b a ha => by fin_cases a <;> first | exact absurd rfl ha | rfl) rfl (fun a ha => by fin_cases a <;> first | exact absurd rfl ha | rfl) rfl

theorem mem_quarter (i : Fin 4) (z : S2x4096x512.Idx) : z ∈ (quarterR i).set
    ↔ (z 0).val = i.val / 2 ∧ (z 2).val / 256 = i.val % 2 := by
  have hz1 : (z 1).val < 4096 := (z 1).isLt
  rw [Rect.mem_set_unit]
  constructor
  · intro h
    have a0 : i.val / 2 ≤ (z 0).val ∧ (z 0).val < i.val / 2 + 1 := h 0
    have a2 : 256 * (i.val % 2) ≤ (z 2).val ∧ (z 2).val < 256 * (i.val % 2) + 256 := h 2
    omega
  · rintro ⟨h0, h2⟩ a
    fin_cases a
    · show i.val / 2 ≤ (z 0).val ∧ (z 0).val < i.val / 2 + 1; omega
    · show 0 ≤ (z 1).val ∧ (z 1).val < 0 + 4096; omega
    · show 256 * (i.val % 2) ≤ (z 2).val ∧ (z 2).val < 256 * (i.val % 2) + 256; omega
theorem quarters_disjoint (b b' : Fin 4) (h : b ≠ b') : Disjoint (quarterR b).set (quarterR b').set := by
  rw [Finset.disjoint_left]
  intro z h1 h2
  rw [mem_quarter] at h1 h2
  exact h (Fin.ext (by omega))
theorem quarters_cover : Finset.univ.biUnion (fun b => (quarterR b).set) = Finset.univ := by
  ext z
  have h0 : (z 0).val < 2 := (z 0).isLt
  have h2 : (z 2).val < 512 := (z 2).isLt
  simp only [Finset.mem_biUnion, Finset.mem_univ, true_and, iff_true]
  refine ⟨⟨2 * (z 0).val + (z 2).val / 256, by omega⟩, (mem_quarter _ z).mpr ⟨?_, ?_⟩⟩
  · show (z 0).val = (2 * (z 0).val + (z 2).val / 256) / 2; omega
  · show (z 2).val / 256 = (2 * (z 0).val + (z 2).val / 256) % 2; omega

/-! ## The devices by distance -/

/-- The device at a distance ahead; the device at a distance behind. -/
def ahead (c : Fin 32) : Fin 32 ≃ Fin 32 :=
  ⟨fun d => c + d, fun p => p - c, fun d => add_sub_self c d, fun p => by revert c p; decide⟩
def behind (c : Fin 32) : Fin 32 ≃ Fin 32 :=
  ⟨fun d => c - d, fun p => c - p, fun d => sub_sub_self c d, fun d => sub_sub_self c d⟩

/-! ## Separating sums -/

/-- Only the summands of a subset count when the others are nothing. -/
theorem bigSep_support {I : Type} [DecidableEq I] {s t : Finset I} {Φ : I → sProp 𝕄} (h : t ⊆ s)
    (he : ∀ i ∈ s, i ∉ t → Φ i = iprop(emp)) : (bigSep s Φ : sProp 𝕄) = bigSep t Φ := by
  have hz : (bigSep (s \ t) Φ : sProp 𝕄) = iprop(emp) :=
    (bigSep_congr fun i hi => he i (Finset.mem_sdiff.mp hi).1 (Finset.mem_sdiff.mp hi).2).trans (bigSep_emp_const _)
  rw [bigSep_sdiff_split h, hz]
  exact equiv_iff.mp sep_emp
/-- Term by term. -/
theorem each {I : Type} {s : Finset I} {Φ Ψ : I → sProp 𝕄} (h : ∀ i ∈ s, Φ i ⊢ Ψ i) : (bigSep s Φ : sProp 𝕄) ⊢ bigSep s Ψ := bigSep_mono h
/-- The distance 0 and the others. -/
theorem bigSep_zero (Φ : Fin 32 → sProp 𝕄) : (bigSep Finset.univ Φ : sProp 𝕄) = iprop(Φ 0 ∗ bigSep D1 Φ) := bigSep_erase (Finset.mem_univ 0)

section Parts
variable (c : Dev nD)

/-! ## The buffers in their parts -/

theorem stage_split : (iprop(∃ f : Buf (Elt F) (sLoc c), sLoc c ↦{fullShare} f) : sProp 𝕄)
    ⊢ bigSep Finset.univ (fun d : Fin 32 => iprop(∃ g, sLoc c ↦[(slotR d).set]{fullShare} g)) := by
  iintro ⟨%f, H⟩
  ihave H := (Entails.of_eq (Ring.pointsTo_blocks (ℓ := sLoc c) (fun d : Fin 32 => (slotR d).set) slot_disjoint slot_cover f)) $$ H
  have hone : ∀ d ∈ (Finset.univ : Finset (Fin 32)), (sLoc c ↦[(slotR d).set]{fullShare} f : sProp 𝕄) ⊢ iprop(∃ g, sLoc c ↦[(slotR d).set]{fullShare} g) :=
    fun d _ => by iintro H; iexists f; iexact H
  iapply (each hone) $$ H
theorem stage_join (f₀ : Buf (Elt F) (sLoc c)) : bigSep Finset.univ (fun d : Fin 32 => iprop(∃ g, sLoc c ↦[(slotR d).set]{fullShare} g))
    ⊢ (iprop(∃ f : Buf (Elt F) (sLoc c), sLoc c ↦{fullShare} f) : sProp 𝕄) :=
  Ring.pointsTo_blocks_join_exists (ℓ := sLoc c) (fun d : Fin 32 => (slotR d).set) slot_disjoint slot_cover f₀
theorem inbox_split (e : Fin 32 ≃ Fin 32) : (iprop(∃ f : Buf (Elt F) (iLoc c), iLoc c ↦{fullShare} f) : sProp 𝕄)
    ⊢ bigSep Finset.univ (fun d : Fin 32 => iprop(∃ g, iLoc c ↦[(slotR (e d)).set]{fullShare} g)) := by
  iintro ⟨%f, H⟩
  ihave H := (Entails.of_eq ((Ring.pointsTo_blocks (ℓ := iLoc c) (fun d : Fin 32 => (slotR d).set) slot_disjoint slot_cover f).trans
    (bigSep_univ_equiv e _))) $$ H
  have hone : ∀ d ∈ (Finset.univ : Finset (Fin 32)), (iLoc c ↦[(slotR (e d)).set]{fullShare} f : sProp 𝕄) ⊢ iprop(∃ g, iLoc c ↦[(slotR (e d)).set]{fullShare} g) :=
    fun d _ => by iintro H; iexists f; iexact H
  iapply (each hone) $$ H
theorem inbox_join (f₀ : Buf (Elt F) (iLoc c)) (e : Fin 32 ≃ Fin 32) : bigSep Finset.univ (fun d : Fin 32 => iprop(∃ g, iLoc c ↦[(slotR (e d)).set]{fullShare} g))
    ⊢ (iprop(∃ f : Buf (Elt F) (iLoc c), iLoc c ↦{fullShare} f) : sProp 𝕄) :=
  (Entails.of_eq (bigSep_univ_equiv e (fun d : Fin 32 => (iprop(∃ g, iLoc c ↦[(slotR d).set]{fullShare} g) : sProp 𝕄))).symm).trans
    (Ring.pointsTo_blocks_join_exists (ℓ := iLoc c) (fun d : Fin 32 => (slotR d).set) slot_disjoint slot_cover f₀)
theorem quarters_split : (iprop(∃ f : Buf (Elt F) (bLoc c), bLoc c ↦{fullShare} f) : sProp 𝕄)
    ⊢ bigSep Finset.univ (fun i : Fin 4 => iprop(∃ g, bLoc c ↦[(quarterR i).set]{fullShare} g)) := by
  iintro ⟨%f, H⟩
  ihave H := (Entails.of_eq (Ring.pointsTo_blocks (ℓ := bLoc c) (fun i : Fin 4 => (quarterR i).set) quarters_disjoint quarters_cover f)) $$ H
  have hone : ∀ i ∈ (Finset.univ : Finset (Fin 4)), (bLoc c ↦[(quarterR i).set]{fullShare} f : sProp 𝕄) ⊢ iprop(∃ g, bLoc c ↦[(quarterR i).set]{fullShare} g) :=
    fun d _ => by iintro H; iexists f; iexact H
  iapply (each hone) $$ H
theorem quarters_join (f₀ : Buf (Elt F) (bLoc c)) : bigSep Finset.univ (fun i : Fin 4 => iprop(∃ g, bLoc c ↦[(quarterR i).set]{fullShare} g))
    ⊢ (iprop(∃ f : Buf (Elt F) (bLoc c), bLoc c ↦{fullShare} f) : sProp 𝕄) :=
  Ring.pointsTo_blocks_join_exists (ℓ := bLoc c) (fun i : Fin 4 => (quarterR i).set) quarters_disjoint quarters_cover f₀
theorem cols_eq : (wLoc c ↦{fullShare} wAt m c : sProp 𝕄)
    = bigSep Finset.univ (fun d : Fin 32 => wLoc c ↦[(wcolR (c + d)).set]{fullShare} wAt m c) :=
  (Ring.pointsTo_blocks (ℓ := wLoc c) (fun d : Fin 32 => (wcolR d).set) wcol_disjoint wcol_cover (wAt m c)).trans (bigSep_univ_equiv (ahead c) _)
theorem rows_split : (iprop(∃ f : Buf (Elt F) (oLoc c), oLoc c ↦{fullShare} f) : sProp 𝕄) ⊢ bigSep Finset.univ (outItem m ρ c 0) := by
  iintro ⟨%f, H⟩
  ihave H := (Entails.of_eq ((Ring.pointsTo_blocks (ℓ := oLoc c) (fun d : Fin 32 => (rowsR d).set) rows_disjoint rows_cover f).trans
    (bigSep_univ_equiv (behind c) _))) $$ H
  have hone : ∀ h ∈ (Finset.univ : Finset (Fin 32)), (oLoc c ↦[(rowsR (behind c h)).set]{fullShare} f : sProp 𝕄) ⊢ outItem m ρ c 0 h :=
    fun h _ => by unfold outItem; rw [if_neg (by omega)]; iintro H; iexists f; iexact H
  iapply (each hone) $$ H
theorem rows_join : bigSep Finset.univ (outItem m ρ c 32) ⊢ (oLoc c ↦{fullShare} outAt m ρ c : sProp 𝕄) := by
  refine (each (Ψ := fun h => oLoc c ↦[(rowsR (behind c h)).set]{fullShare} outAt m ρ c) fun h _ => ?_).trans
    (Entails.of_eq ((Ring.pointsTo_blocks (ℓ := oLoc c) (fun d : Fin 32 => (rowsR d).set) rows_disjoint rows_cover (outAt m ρ c)).trans
      (bigSep_univ_equiv (behind c) _)).symm)
  unfold outItem
  rw [if_pos h.isLt]
  exact BI.Entails.refl _

/-! ## The fetches before the first and after the last -/

/-- The fetch buffer's quarters with their semaphores, and the column blocks of `w`. -/
theorem fetch_items (r : ℕ) (hr : r % 4 = 0) (hr' : r ≤ 32) : (bigSep (Finset.range 36) (fetchItem m c r r r) : sProp 𝕄)
    = iprop(bigSep Finset.univ (fun i : Fin 4 => iprop((∃ g, bLoc c ↦[(quarterR i).set]{fullShare} g) ∗ semVal (fetchCell c i) 0))
      ∗ bigSep Finset.univ (fun d : Fin 32 => wLoc c ↦[(wcolR (c + d)).set]{fullShare} wAt m c)) := by
  have h1 : ∀ n ∈ Finset.range 36, fetchItem m c r r r n = iprop((if r ≤ n ∧ n < r + 4 then freeP c n else iprop(emp)) ∗ colP m c n) := fun n _ => by
    unfold fetchItem
    by_cases h : n < r
    · rw [if_pos h, if_neg (by omega)]; exact (equiv_iff.mp emp_sep).symm
    · rw [if_neg h, if_neg h, if_neg h]
      by_cases h' : n < r + 4
      · rw [if_pos h', if_pos ⟨by omega, h'⟩]
      · rw [if_neg h', if_neg (by omega)]; exact (equiv_iff.mp emp_sep).symm
  rw [bigSep_congr h1, bigSep_sep']
  have ha : (bigSep (Finset.range 36) (fun n => if r ≤ n ∧ n < r + 4 then freeP (F := F) c n else iprop(emp)) : sProp 𝕄)
      = bigSep Finset.univ (fun i : Fin 4 => iprop((∃ g, bLoc c ↦[(quarterR i).set]{fullShare} g) ∗ semVal (fetchCell c i) 0)) := by
    refine (bigSep_support (t := Finset.univ.map ⟨fun i : Fin 4 => r + i.val, fun i j h => Fin.ext (Nat.add_left_cancel h)⟩) ?_ ?_).trans
      ((bigSep_map _).trans (bigSep_congr fun i _ => ?_))
    · intro n hn
      obtain ⟨i, -, rfl⟩ := Finset.mem_map.mp hn
      have := i.isLt
      exact Finset.mem_range.mpr (by show r + i.val < 36; omega)
    · intro n _ hn
      refine if_neg fun h => hn (Finset.mem_map.mpr ⟨⟨n - r, by omega⟩, Finset.mem_univ _, ?_⟩)
      show r + (n - r) = n; omega
    · have hi := i.isLt
      have hq : qtr (r + i.val) = i := Fin.ext (by show (r + i.val) % 4 = i.val; omega)
      show (if r ≤ r + i.val ∧ r + i.val < r + 4 then freeP (F := F) c (r + i.val) else iprop(emp)) = _
      rw [if_pos ⟨by omega, by omega⟩]
      unfold freeP
      rw [hq]
  have hb : (bigSep (Finset.range 36) (colP m c) : sProp 𝕄)
      = bigSep Finset.univ (fun d : Fin 32 => wLoc c ↦[(wcolR (c + d)).set]{fullShare} wAt m c) := by
    refine (bigSep_support (t := Finset.univ.map ⟨fun i : Fin 32 => i.val, fun i j h => Fin.ext h⟩) ?_ ?_).trans
      ((bigSep_map _).trans (bigSep_congr fun i _ => ?_))
    · intro n hn
      obtain ⟨i, -, rfl⟩ := Finset.mem_map.mp hn
      have := i.isLt
      exact Finset.mem_range.mpr (by show i.val < 36; omega)
    · intro n _ hn
      exact if_neg fun h => hn (Finset.mem_map.mpr ⟨⟨n, h⟩, Finset.mem_univ _, rfl⟩)
    · show colP m c i.val = _
      unfold colP
      rw [if_pos i.isLt, slotOf_val]
  exact congrArg₂ (fun A B : sProp 𝕄 => iprop(A ∗ B)) ha hb

/-- From the whole fetch buffer, its semaphores and the whole of `w`; -/
theorem fetch_start : (iprop((∃ f : Buf (Elt F) (bLoc c), bLoc c ↦{fullShare} f) ∗ bigSep Finset.univ (fun i : Fin 4 => semVal (fetchCell c i) 0)
      ∗ (wLoc c ↦{fullShare} wAt m c)) : sProp 𝕄) ⊢ bigSep (Finset.range 36) (fetchItem m c 0 0 0) := by
  rw [fetch_items m c 0 rfl (by omega), bigSep_sep', ← cols_eq m c]
  iintro ⟨Hb, Hs, Hw⟩
  isplitl [Hb Hs]
  · isplitl [Hb]
    · iapply (quarters_split c) $$ Hb
    iexact Hs
  iexact Hw
/-- and back. -/
theorem fetch_end : bigSep (Finset.range 36) (fetchItem m c 32 32 32)
    ⊢ (iprop((∃ f : Buf (Elt F) (bLoc c), bLoc c ↦{fullShare} f) ∗ bigSep Finset.univ (fun i : Fin 4 => semVal (fetchCell c i) 0)
      ∗ (wLoc c ↦{fullShare} wAt m c)) : sProp 𝕄) := by
  rw [fetch_items m c 32 rfl (by omega), bigSep_sep', ← cols_eq m c]
  iintro ⟨⟨Hb, Hs⟩, Hw⟩
  isplitl [Hb]
  · iapply (quarters_join c (bufAt m c 0)) $$ Hb
  isplitl [Hs]
  · iexact Hs
  iexact Hw

end Parts

end Cert.KernelIdeal.Exchange

end

end
-- ==== Proof.Run.KernelIdeal.Glue.lean ====
/-
From what a device holds at the launch to the exchange's first state, and from its last state back: the buffers whole
again and every cell closed with its counter at zero.
-/
module

public import proofs.«01_k».proof.Proof.Run.KernelIdeal.Split

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)
variable (K : Dev nD × KC → ℕ)

local notation "𝕄" => MT nD τ sig Unit (Elt F) ℕ UU ℕ

/-! ## A device's cells, one by one -/

/-- The barrier cell, the send cells and the receive cells. -/
theorem bigSep_KC (Φ : KC → sProp 𝕄) : (bigSep Finset.univ Φ : sProp 𝕄)
    = iprop(Φ none ∗ bigSep Finset.univ (fun d : Fin 32 => Φ (some (false, d))) ∗ bigSep Finset.univ (fun s : Fin 32 => Φ (some (true, s)))) := by
  have hs : (Finset.univ : Finset KC).erase none = Finset.univ.map Function.Embedding.some := by
    ext k; cases k <;> simp
  rw [bigSep_univ_at Φ none, hs, bigSep_map, bigSep_univ_prod, bigSep_univ_eq_bigSepL [false, true] (by decide) (by decide)]
  rfl

/-- The tokens of the duties device `c` pays towards distance `d`. -/
def payTok (c : Dev nD) (d : Fin 32) : sProp 𝕄 :=
  iprop(dutyTok ER (barCell (c + d)) 0 (c : Fin 32) ∗ dutyTok ER (sendCell c d) 0 (0 : Fin 32) ∗ dutyTok ER (recvCell (c + d) c) 0 (0 : Fin 32))
/-- What a device alone holds of the schedule: its cells' positions, and the tokens of the duties it pays. -/
def lin (c : Dev nD) : sProp 𝕄 :=
  iprop(bigSep Finset.univ (fun k : KC => atPos ER (kcell (c, k)) 0 ∅ 0) ∗ bigSep Finset.univ (payTok (F := F) c))
/-- What the exchange leaves alone: slot 0 of the stage, the device's own slot of the inbox, and their cells' positions. -/
def Left (c : Dev nD) : sProp 𝕄 :=
  iprop((∃ g, sLoc c ↦[(slotR 0).set]{fullShare} g) ∗ (∃ g, iLoc c ↦[(slotR (c - 0)).set]{fullShare} g)
    ∗ atPos ER (sendCell c 0) 0 ∅ 0 ∗ atPos ER (recvCell c (c - 0)) 0 ∅ 0)
/-- The scratch buffers, at some contents. -/
def scr (c : Dev nD) : sProp 𝕄 :=
  iprop((∃ f : Buf (Elt F) (bLoc c), bLoc c ↦{fullShare} f) ∗ (∃ f : Buf (Elt F) (sLoc c), sLoc c ↦{fullShare} f)
    ∗ (∃ f : Buf (Elt F) (iLoc c), iLoc c ↦{fullShare} f))
/-- The credits of a device's own waits. -/
def credits (c : Dev nD) : sProp 𝕄 :=
  iprop(cred (tallyAt (barCell c) () 31) ∗ bigSep D1 (fun h => cred (tallyAt (recvCell c (c - h)) () N)))
/-- The fetches' semaphores at zero. -/
def fetch0 (c : Dev nD) : sProp 𝕄 := bigSep Finset.univ (fun i : Fin 4 => semVal (fetchCell c i) 0)

/-- The inbox parted into the slots handed to the others and its own: slot `c + d` belongs to distance `d`. -/
theorem inbox_ahead (c : Dev nD) : (iprop(∃ f : Buf (Elt F) (iLoc c), iLoc c ↦{fullShare} f) : sProp 𝕄)
    ⊢ iprop((∃ g, iLoc c ↦[(slotR (c - 0)).set]{fullShare} g) ∗ bigSep D1 (fun d : Fin 32 => iprop(∃ g, iLoc c ↦[(slotR (c + d)).set]{fullShare} g))) := by
  have h0 : c + (0 : Fin 32) = c - 0 := by revert c; decide
  refine (inbox_split c (ahead c)).trans (Entails.of_eq ((bigSep_zero _).trans ?_))
  show iprop((∃ g, iLoc c ↦[(slotR (c + 0)).set]{fullShare} g) ∗ _) = _
  rw [h0]
  rfl

theorem start_intro (c : Dev nD) :
    iprop(invs m ρ K ∗ lin c ∗ fetch0 c ∗ credits c ∗ (wLoc c ↦{fullShare} wAt m c) ∗ scr c
      ∗ (xLoc c ↦{fullShare} xstg m ρ c) ∗ (∃ f : Buf (Elt F) (oLoc c), oLoc c ↦{fullShare} f) ∗ ∃ W, owes (c : Thread nD τ) (O₀ c) W)
      ⊢ iprop(Left c ∗ Start m ρ K c) := by
  unfold lin scr credits fetch0 Start
  rw [bigSep_KC, bigSep_zero (payTok c)]
  iintro ⟨#Hi, ⟨⟨HaB, HaS, HaR⟩, -, Htok⟩, Hf, ⟨HcB, HcR⟩, Hw, ⟨Hb, Hs, Hn⟩, Hx, Ho, HW⟩
  ihave Hs := (stage_split c) $$ Hs
  ihave Hs := (Entails.of_eq (bigSep_zero (fun d : Fin 32 => iprop(∃ g, sLoc c ↦[(slotR d).set]{fullShare} g)))) $$ Hs
  ihave HaS := (Entails.of_eq (bigSep_zero (fun d : Fin 32 => (atPos ER (kcell (c, some (false, d))) 0 ∅ 0 : sProp 𝕄)))) $$ HaS
  ihave HaR := (Entails.of_eq ((bigSep_univ_equiv (behind c) (fun s : Fin 32 => (atPos ER (kcell (c, some (true, s))) 0 ∅ 0 : sProp 𝕄))).trans (bigSep_zero _))) $$ HaR
  ihave Hn := (inbox_ahead c) $$ Hn
  icases Hs with ⟨Hs0, Hs⟩
  icases Hn with ⟨Hn0, Hn⟩
  icases HaS with ⟨HaS0, HaS⟩
  icases HaR with ⟨HaR0, HaR⟩
  isplitl [Hs0 Hn0 HaS0 HaR0]
  · unfold Left
    isplitl [Hs0]; · iexact Hs0
    isplitl [Hn0]; · iexact Hn0
    isplitl [HaS0]; · iexact HaS0
    iexact HaR0
  isplitr; · iexact Hi
  isplitl [Hx]; · iexact Hx
  isplitl [HcB HaB]
  · isplitl [HcB]; · iexact HcB
    iexact HaB
  isplitl [Hf Hb Hw]
  · iapply (fetch_start m c)
    isplitl [Hb]; · iexact Hb
    isplitl [Hf]; · iexact Hf
    iexact Hw
  isplitl [Hs HaS Htok Hn]
  · have hpre : ∀ d ∈ D1, iprop(((∃ g, sLoc c ↦[(slotR d).set]{fullShare} g) ∗ atPos ER (kcell (c, some (false, d))) 0 ∅ 0)
        ∗ payTok c d ∗ ∃ g, iLoc c ↦[(slotR (c + d)).set]{fullShare} g) ⊢ (iprop(preItem c d ∗ barItem c 1 d) : sProp 𝕄) := fun d hd => by
      unfold preItem barItem payTok
      have h1 : ¬ d.val < 1 := fun h => (Finset.mem_erase.mp hd).1 (Fin.ext (by show d.val = 0; omega))
      rw [if_neg h1]
      iintro ⟨⟨Hs, Ha⟩, ⟨HB, HS, HR⟩, Hn⟩
      isplitl [Hs Ha HS HR]
      · isplitl [Hs]; · iexact Hs
        isplitl [Ha]; · iexact Ha
        isplitl [HS]; · iexact HS
        iexact HR
      isplitl [HB]; · iexact HB
      iexact Hn
    iapply ((each hpre).trans (Entails.of_eq (bigSep_sep' D1 (preItem c) (barItem c 1))))
    rw [bigSep_sep', bigSep_sep', bigSep_sep']
    isplitl [Hs HaS]
    · isplitl [Hs]; · iexact Hs
      iexact HaS
    isplitl [Htok]; · iexact Htok
    iexact Hn
  isplitl [HcR HaR]
  · have hrec : ∀ h ∈ D1, iprop(cred (tallyAt (recvCell c (c - h)) () N) ∗ atPos ER (kcell (c, some (true, behind c h))) 0 ∅ 0)
        ⊢ (recvItem m ρ c 1 h : sProp 𝕄) := fun h hh => by
      unfold recvItem
      have h1 : ¬ h.val < 1 := fun h' => (Finset.mem_erase.mp hh).1 (Fin.ext (by show h.val = 0; omega))
      rw [if_neg h1]
      exact BI.Entails.refl _
    iapply (each hrec)
    rw [bigSep_sep']
    isplitl [HcR]; · iexact HcR
    iexact HaR
  isplitl [Ho]
  · iapply (rows_split m ρ c) $$ Ho
  iexact HW

/-! ## Closing -/

theorem sub_zero_self (c : Fin 32) : c - 0 = c := by revert c; decide

theorem with_persistent {I : Type} [DecidableEq I] {S : Finset I} {R : sProp 𝕄} [BI.Persistent R] {Φ Ψ : I → sProp 𝕄}
    (h : ∀ i ∈ S, iprop(R ∗ Φ i) ⊢ Ψ i) : (iprop(R ∗ bigSep S Φ) : sProp 𝕄) ⊢ bigSep S Ψ :=
  (sep_mono_left (BI.bigSep_of_persistent S R)).trans (by rw [← bigSep_sep']; exact bigSep_mono h)

/-- Closing the cells `k i`, past their last duty. -/
theorem close_all {I : Type} [DecidableEq I] (S : Finset I) (c : Dev nD) (k : I → KC) (R : ℕ)
    (hR : ∀ i ∈ S, ∀ r, R ≤ r → (exRd (F := F) m ρ).duties (kcell (c, k i)) r = ∅) :
    (iprop(invs m ρ K ∗ bigSep S (fun i => atPos ER (kcell (c, k i)) R ∅ 0)) : sProp 𝕄)
      ⊢ |={Set.univ}=> bigSep S (fun i => semVal (kcell (c, k i)) 0) := by
  refine (with_persistent (Ψ := fun i => iprop(|={Set.univ}=> semVal (kcell (c, k i)) 0)) fun i hi => ?_).trans (bigSep_fupd _ _)
  iintro ⟨#Hi, Ha⟩
  iapply (Rounds.cell_close ER (exRd m ρ) (Set.mem_univ (K (c, k i))) (fun h => h) (R := R) (hR i hi))
  isplitr
  · iapply (invs_cell m ρ K (c, k i)) $$ Hi
  iexact Ha

theorem close_one (c : Dev nD) (k : KC) (R : ℕ) (hR : ∀ r, R ≤ r → (exRd (F := F) m ρ).duties (kcell (c, k)) r = ∅) :
    (iprop(invs m ρ K ∗ atPos ER (kcell (c, k)) R ∅ 0) : sProp 𝕄) ⊢ |={Set.univ}=> semVal (kcell (c, k)) 0 := by
  iintro ⟨#Hi, Ha⟩
  iapply (Rounds.cell_close ER (exRd m ρ) (Set.mem_univ (K (c, k))) (fun h => h) (R := R) hR)
  isplitr
  · iapply (invs_cell m ρ K (c, k)) $$ Hi
  iexact Ha

theorem end_elim (c : Dev nD) :
    iprop(Left c ∗ St m ρ K c 32 32 32 32 32 32 32 32)
      ⊢ |={Set.univ}=> (iprop((wLoc c ↦{fullShare} wAt m c) ∗ fetch0 c ∗ bigSep Finset.univ (fun k : KC => semVal (kcell (c, k)) 0) ∗ scr c
      ∗ (xLoc c ↦{fullShare} xstg m ρ c) ∗ (oLoc c ↦{fullShare} outAt m ρ c) ∗ ∃ W, owes (c : Thread nD τ) 0 W) : sProp 𝕄) := by
  have hS : (bigSep D1 (sendItem m ρ c 32 32 32) : sProp 𝕄)
      = iprop(bigSep D1 (fun d => iprop(∃ g, sLoc c ↦[(slotR d).set]{fullShare} g)) ∗ bigSep D1 (fun d => atPos ER (kcell (c, some (false, d))) 1 ∅ 0)) :=
    (bigSep_congr fun d _ => by unfold sendItem; rw [if_pos d.isLt]).trans (bigSep_sep' D1 _ _)
  have hR : (bigSep D1 (recvItem m ρ c 32) : sProp 𝕄)
      = iprop(bigSep D1 (fun h => iLoc c ↦[(slotR (c - h)).set]{fullShare} inboxAt m ρ c) ∗ bigSep D1 (fun h => atPos ER (kcell (c, some (true, c - h))) 1 ∅ 0)) :=
    (bigSep_congr fun d _ => by unfold recvItem; rw [if_pos d.isLt]).trans (bigSep_sep' D1 _ _)
  have hn : ∀ h ∈ D1, (iLoc c ↦[(slotR (c - h)).set]{fullShare} inboxAt m ρ c : sProp 𝕄) ⊢ iprop(∃ g, iLoc c ↦[(slotR (c - h)).set]{fullShare} g) :=
    fun h _ => by iintro H; iexists _; iexact H
  have hr0 : ∀ r, 0 ≤ r → (exRd (F := F) m ρ).duties (kcell (c, some (true, c - 0))) r = ∅ := by
    rw [sub_zero_self]; exact duties_recv0 m ρ c
  unfold Left St
  rw [hS, hR, OR_end]
  iintro ⟨⟨Hs0, Hn0, HaS0, HaR0⟩, #Hi, ⟨Hx, HaB⟩, HF, ⟨Hs, HaS⟩, ⟨Hn, HaR⟩, Ho, HW⟩
  imod (close_one m ρ K c none 1 (duties_later m ρ _)) $$ [HaB] with HB
  · isplitr; · iexact Hi
    iexact HaB
  imod (close_one m ρ K c (some (false, 0)) 0 (duties_send0 m ρ c)) $$ [HaS0] with HS0
  · isplitr; · iexact Hi
    iexact HaS0
  imod (close_one m ρ K c (some (true, c - 0)) 0 hr0) $$ [HaR0] with HR0
  · isplitr; · iexact Hi
    iexact HaR0
  imod (close_all m ρ K D1 c (fun d => some (false, d)) 1 (fun d _ => duties_later m ρ _)) $$ [HaS] with HS
  · isplitr; · iexact Hi
    iexact HaS
  imod (close_all m ρ K D1 c (fun h => some (true, c - h)) 1 (fun d _ => duties_later m ρ _)) $$ [HaR] with HR
  · isplitr; · iexact Hi
    iexact HaR
  imodintro
  ihave HF := (fetch_end m c) $$ HF
  icases HF with ⟨Hb, Hf, Hw⟩
  isplitl [Hw]; · iexact Hw
  isplitl [Hf]; · unfold fetch0; iexact Hf
  isplitl [HB HS0 HR0 HS HR]
  · rw [bigSep_KC, bigSep_zero (fun d : Fin 32 => (semVal (kcell (c, some (false, d))) 0 : sProp 𝕄)),
      bigSep_univ_equiv (behind c) (fun s : Fin 32 => (semVal (kcell (c, some (true, s))) 0 : sProp 𝕄)), bigSep_zero]
    isplitl [HB]; · iexact HB
    isplitl [HS0 HS]
    · isplitl [HS0]; · iexact HS0
      iexact HS
    isplitl [HR0]; · iexact HR0
    iexact HR
  isplitl [Hb Hs0 Hs Hn0 Hn]
  · unfold scr
    isplitl [Hb]; · iexact Hb
    isplitl [Hs0 Hs]
    · iapply (stage_join c (stageAt m ρ c))
      rw [bigSep_zero]
      isplitl [Hs0]; · iexact Hs0
      iexact Hs
    ihave Hn := (each hn) $$ Hn
    iapply (inbox_join c (inboxAt m ρ c) (behind c))
    rw [bigSep_zero]
    isplitl [Hn0]; · iexact Hn0
    iexact Hn
  isplitl [Hx]; · iexact Hx
  isplitl [Ho]; · iapply (rows_join m ρ c) $$ Ho
  iexact HW

end Cert.KernelIdeal.Exchange

end

end
-- ==== Proof.Run.KernelIdeal.Launch.lean ====
/-
The launch: the ghost resources dealt to the 32 devices, the body's obligation, and the run of the whole machine.
-/
module

public import proofs.«01_k».proof.Proof.Run.KernelIdeal.Glue
public import proofs.«01_k».proof.Proof.Gen.KernelIdeal.Points
public import Idealize.ShloMosaic.Lib.Quiescent
public import Idealize.ShloMosaic.Lib.Pipeline.CollectiveSegs

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
variable (m : (ℓ : Loc nD τ sig) → Buf (Elt F) ℓ) (ρ : Dev nD → PrngReg)

local notation "𝕄" => MT nD τ sig Unit (Elt F) ℕ UU ℕ

/-! ## What a device holds before the point and after it -/

/-- The fetches', the sends' and the receives' semaphores: the kernel's own. -/
abbrev osem : Fin 4 ⊕ (Bool × Fin 32) → SemLoc sig
  | .inl i => .dma (fetchS i)
  | .inr k => csem (some k)

/-- What a device's launch leaves it of the schedule. -/
def ghost (c : Dev nD) : sProp 𝕄 := iprop(∃ K : Dev nD × KC → ℕ, invs m ρ K ∗ lin c)
def start (c : Dev nD) : sProp 𝕄 := iprop(ghost m ρ c ∗ fetch0 c ∗ credits c ∗ (wLoc c ↦{fullShare} wAt m c))
def Φ₀ (c : Dev nD) : sProp 𝕄 := iprop(start m ρ c ∗ scr c)
def Φ₁ (c : Dev nD) : sProp 𝕄 :=
  iprop((wLoc c ↦{fullShare} wAt m c) ∗ fetch0 c ∗ bigSep Finset.univ (fun k : KC => semVal (kcell (c, k)) 0) ∗ scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ m c
  q _ := fullShare
  owed t := match t with
    | ⟨0, _⟩ => O₀ c
    | ⟨_ + 1, _⟩ => 0

theorem whole_owned (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body -/

/-- A staging buffer at the contents `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre (c : Dev nD) : sProp 𝕄 :=
  iprop(Φ₀ m ρ c ∗ (dats m ρ 0 c).owesAt () t0_0.castSucc
    ∗ (∃ d, held c cc0_stg0_0 ((dats m ρ 0 c).before (0 : Fin 2) t0_0 d))
    ∗ (∃ d, held c cc0_stg1_0 ((dats m ρ 0 c).before (1 : Fin 2) t0_0 d)))
def bodyPost (c : Dev nD) : sProp 𝕄 :=
  iprop(Φ₁ m c ∗ (dats m ρ 0 c).owesAt () t0_0.succ ∗ held c cc0_stg0_0 (xstg m ρ c) ∗ held c cc0_stg1_0 (outAt m ρ c))

/-- The body between its first state and its last, what it leaves alone carried across. -/
theorem body_framed (K : Dev nD × KC → ℕ) (c : Dev nD) {h0 : (xM).IsWhole} {h1 : (wM).IsWhole} {h2 : (oM).IsWhole} {h3 : (bM).IsWhole}
    {h4 : (sM).IsWhole} {h5 : (iM).IsWhole} (Q : sProp (MT nD τ sig Unit (Elt F) ℕ UU ℕ))
    (H : iprop(Left c ∗ St m ρ K c 32 32 32 32 32 32 32 32) ⊢ |={Set.univ}=> Q) :
    iprop(Left c ∗ Start m ρ K c) ⊢ WP c (cc0_body xM h0 wM h1 oM h2 bM h3 sM h4 iM h5 cc0_scratch3 cc0_scratch4 cc0_scratch5) (fun _ => Q) := by
  refine (sep_mono_right (body_run (P := Start m ρ K c) (Q := fun _ => St m ρ K c 32 32 32 32 32 32 32 32)
    (fun Q H => entry (h0 := h0) (h1 := h1) (h2 := h2) (h3 := h3) (h4 := h4) (h5 := h5) Q H) (BI.Entails.refl _))).trans ?_
  refine (wp_frame_l _ _ _).trans ?_
  refine (wp_mono _ _ _ fun _ => H).trans ?_
  exact wp_fupd _ _ _ _ _

theorem sound_body (c : Dev nD) {h0 : (xM).IsWhole} {h1 : (wM).IsWhole} {h2 : (oM).IsWhole} {h3 : (bM).IsWhole}
    {h4 : (sM).IsWhole} {h5 : (iM).IsWhole} :
    bodyPre m ρ c ⊢ WP c (cc0_body xM h0 wM h1 oM h2 bM h3 sM h4 iM h5 cc0_scratch3 cc0_scratch4 cc0_scratch5) (fun _ => bodyPost m ρ c) := by
  have hfin (K : Dev nD × KC → ℕ) : iprop(Left c ∗ St m ρ K c 32 32 32 32 32 32 32 32) ⊢ |={Set.univ}=> bodyPost m ρ c := by
    refine (end_elim m ρ K c).trans (fupd_mono ?_)
    unfold bodyPost Φ₁ Dat.owesAt Pipeline.owesWithin
    iintro ⟨Hw, Hf, Hc, Hs, Hx, Ho, ⟨%W, HW⟩⟩
    isplitl [Hw Hf Hc Hs]
    · isplitl [Hw]; · iexact Hw
      isplitl [Hf]; · iexact Hf
      isplitl [Hc]; · iexact Hc
      iexact Hs
    isplitl [HW]
    · iexists W
      isplitr; · (ipureintro; exact fun _ _ => Or.inl trivial)
      iexact HW
    isplitl [Hx]
    · iexists _; isplitr; · (ipureintro; rfl)
      iexact Hx
    iexists _; isplitr; · (ipureintro; rfl)
    iexact Ho
  unfold bodyPre Φ₀ start ghost
  iintro ⟨⟨⟨⟨%K, #Hi, Hl⟩, Hf, Hcr, Hw⟩, Hs⟩, Ho, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl]
  iapply ((start_intro m ρ K c).trans (body_framed m ρ K c (bodyPost m ρ c) (hfin K)))
  isplitr; · iexact Hi
  isplitl [Hl]; · iexact Hl
  isplitl [Hf]; · iexact Hf
  isplitl [Hcr]; · iexact Hcr
  isplitl [Hw]; · iexact Hw
  isplitl [Hs]; · iexact Hs
  isplitl [Hx]; · iexact Hx
  isplitl [Hout]; · iexists g1; iexact Hout
  iexists W; iexact HO

theorem body_obligation (c : Dev nD) : BodyObligation (dats (F := F) m ρ 0 c) (defs₀ (F := F)) 𝒱₀ () Set.univ := fun t => by
  rw [fin_N0 t]
  rw [bigSep_W0, bigSep_W0]
  simp only [whole_owned]
  exact sound_body m ρ c

/-! ## The launch's ghost resources -/

theorem ownSemFacts : Pipeline.OwnSemFacts cfg0.spec osem := by decide +kernel

theorem share_eq (c : Dev nD) (w : Fin cfg0.W) : (dats m ρ 0 c).share w = fullShare := by unfold Dat.share; split <;> rfl

theorem sendS_inj {a b : Fin 32} (h : sendS a = sendS b) : a = b := by revert a b; decide
theorem recvS_inj {a b : Fin 32} (h : recvS a = recvS b) : a = b := by revert a b; decide
theorem send_ne_recv (a b : Fin 32) : sendS a ≠ recvS b := by revert a b; decide
theorem csem_injective : Function.Injective csem := by
  rintro (_ | ⟨_ | _, a⟩) (_ | ⟨_ | _, b⟩) h
  · rfl
  · cases h
  · cases h
  · cases h
  · rw [sendS_inj (SemLoc.dma.inj h)]
  · exact absurd (SemLoc.dma.inj h) (send_ne_recv a b)
  · cases h
  · exact absurd (SemLoc.dma.inj h).symm (send_ne_recv b a)
  · rw [recvS_inj (SemLoc.dma.inj h)]
theorem kcell_injective : Function.Injective (kcell : Dev nD × KC → GSem nD τ sig) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨kcell, kcell_injective⟩

/-- The duty a device pays towards a distance: a barrier unit, its send's landing here, and there. -/
def payIx (x : (Dev nD × Fin 32) × Fin 3) : (Dev nD × KC) × Fin 32 := match x.2 with
  | 0 => ((x.1.1 + x.1.2, none), x.1.1)
  | 1 => ((x.1.1, some (false, x.1.2)), 0)
  | 2 => ((x.1.1 + x.1.2, some (true, x.1.1)), 0)
theorem add_left_inj' (c d e : Fin 32) (h : c + d = c + e) : d = e := by revert c d e; decide
theorem payIx_injective : Function.Injective payIx := by
  rintro ⟨⟨c, d⟩, j⟩ ⟨⟨c', d'⟩, j'⟩ h
  have h1 := congrArg (fun y : (Dev nD × KC) × Fin 32 => y.1.1) h
  have h2 := congrArg (fun y : (Dev nD × KC) × Fin 32 => y.1.2) h
  have h3 := congrArg (fun y : (Dev nD × KC) × Fin 32 => y.2) h
  fin_cases j <;> fin_cases j' <;> first | (exfalso; cases h2; done) | skip
  · change c = c' at h3; subst h3; rw [add_left_inj' c d d' h1]
  · change c = c' at h1; subst h1; cases h2; rfl
  · have h4 : c = c' := by cases h2; rfl
    subst h4; rw [add_left_inj' c d d' h1]
def tokOf (x : (Dev nD × Fin 32) × Fin 3) : GSem nD τ sig × ℕ × Fin 32 := (kcell (payIx x).1, 0, (payIx x).2)
theorem tokOf_injective : Function.Injective tokOf := fun x y h =>
  payIx_injective (Prod.ext (kcell_injective (congrArg (fun t : GSem nD τ sig × ℕ × Fin 32 => t.1) h)) (congrArg (fun t : GSem nD τ sig × ℕ × Fin 32 => t.2.2) h))
def ringToks : Finset (GSem nD τ sig × ℕ × Fin 32) := Finset.univ.map ⟨tokOf, tokOf_injective⟩

def u₀ : UU :=
  (initOf (Pipeline.cells cfgs cellOf_inj) (Pipeline.launchToks cfgs cellOf_inj), (initOf ringCells ringToks, (1 : Counters)))

theorem launch_split (a : UR sig nD τ) (b : UB) : (ownU ((a, (b, (1 : Counters))) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- What the launch element deals device `c`. -/
def G (c : Dev nD) : sProp 𝕄 :=
  iprop((bigSep Finset.univ fun k : KC => roundState ER (exRd m ρ) (kcell (c, k)) 0)
    ∗ (bigSep Finset.univ fun k : KC => reached ER (kcell (c, k)) 0) ∗ lin c)
/-- What it holds of its semaphores and of that once the cells are allocated. -/
def G' (c : Dev nD) : sProp 𝕄 := iprop((∃ K : Dev nD × KC → ℕ, (bigSep Finset.univ fun ck : Dev nD × KC => cellInv ER (exRd m ρ) (K ck) (kcell ck))
    ∗ (bigSep Finset.univ fun ck : Dev nD × KC => reached ER (kcell ck) 0) ∗ lin c) ∗ fetch0 c)

theorem toks_eq : (bigSep ringToks (fun x => (dutyTok ER x.1 x.2.1 x.2.2 : sProp 𝕄)) : sProp 𝕄)
    = bigSep Finset.univ fun c : Dev nD => bigSep Finset.univ (payTok (F := F) c) := by
  unfold ringToks
  rw [bigSep_map, bigSep_univ_prod, bigSep_univ_prod]
  refine bigSep_congr fun c _ => bigSep_congr fun d _ => ?_
  rw [bigSep_univ_eq_bigSepL [(0 : Fin 3), 1, 2] (by decide) (by decide)]
  rfl

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : KC => Φ (kcell (c, k)) := by
    unfold ringCells; rw [bigSep_map, bigSep_univ_prod]; rfl
  iintro HX
  imod (Rounds.fund ER (exRd m ρ) ringCells ringToks) $$ HX with ⟨Hst, Hr, Hat, Htok⟩
  imodintro
  ihave Hst := (Entails.of_eq (hX fun g => roundState ER (exRd m ρ) g 0)) $$ Hst
  ihave Hat := (Entails.of_eq (hX fun g => atPos ER g 0 ∅ 0)) $$ Hat
  ihave Hr := (Entails.of_eq (hX fun g => reached ER g 0)) $$ Hr
  ihave Htok := (Entails.of_eq toks_eq) $$ Htok
  unfold G lin; simp only [bigSep_sep']
  isplitl [Hst]; · iexact Hst
  isplitl [Hr]; · iexact Hr
  isplitl [Hat]; · iexact Hat
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = iprop(fetch0 c ∗ bigSep Finset.univ (fun d : Fin 32 => semVal (sendCell c d) 0) ∗ bigSep Finset.univ (fun s : Fin 32 => semVal (recvCell c s) 0)) := by
  have h2 : (bigSep Finset.univ (fun k : Bool × Fin 32 => semVal ((c : Thread nD τ), csem (some k)) 0) : sProp 𝕄)
      = iprop(bigSep Finset.univ (fun d : Fin 32 => semVal (sendCell c d) 0) ∗ bigSep Finset.univ (fun s : Fin 32 => semVal (recvCell c s) 0)) := by
    rw [bigSep_univ_prod, bigSep_univ_eq_bigSepL [false, true] (by decide) (by decide)]
    rfl
  exact (BI.bigSep_univ_sum (fun k => (semVal ((c : Thread nD τ), osem k) 0 : sProp 𝕄))).trans (congrArg (fun B : sProp 𝕄 => iprop(fetch0 c ∗ B)) h2)
/-- A device's own semaphores and its barrier semaphore are the fetches' and its cells'. -/
theorem sems_eq (c : Dev nD) :
    (iprop(Pipeline.ownSems0 (Ix := Unit) (Name := ℕ) (U := UU) (Lvl := ℕ) (Val := Elt F) (τ := τ) osem c ∗ unscopedSems0 c) : sProp 𝕄)
      ⊢ iprop(fetch0 c ∗ bigSep Finset.univ fun k : KC => semVal (kcell (c, k)) 0) := by
  rw [unscopedSems0_eq, bigSep_KC, ownSems0_eq]
  iintro ⟨⟨HF, ⟨HS, HR⟩⟩, HB⟩
  isplitl [HF]; · iexact HF
  isplitl [HB]; · iexact HB
  isplitl [HS]; · iexact HS
  iexact HR
theorem sems_back (c : Dev nD) :
    (iprop(fetch0 c ∗ bigSep Finset.univ fun k : KC => semVal (kcell (c, k)) 0) : sProp 𝕄)
      ⊢ iprop(unscopedSems0 c ∗ Pipeline.ownSems0 (Ix := Unit) (Name := ℕ) (U := UU) (Lvl := ℕ) (Val := Elt F) (τ := τ) osem c) := by
  rw [unscopedSems0_eq, bigSep_KC, ownSems0_eq]
  iintro ⟨HF, HB, HS, HR⟩
  isplitl [HB]; · iexact HB
  isplitl [HF]; · iexact HF
  isplitl [HS]; · iexact HS
  iexact HR

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : KC => iprop(∃ κ : ℕ, cellInv ER (exRd m ρ) κ (kcell (c, k))))
          ∗ (bigSep Finset.univ fun k : KC => reached ER (kcell (c, k)) 0) ∗ lin c ∗ fetch0 c) := by
  unfold G
  iintro ⟨Hos, Hus, Hst, Hr, Hl⟩
  ihave Hv := (sems_eq (F := F) c) $$ [Hos Hus]
  · isplitl [Hos] <;> iassumption
  icases Hv with ⟨Hf, Hv⟩
  imod (show iprop((bigSep Finset.univ fun k : KC => semVal (kcell (c, k)) 0) ∗ bigSep Finset.univ fun k : KC => roundState ER (exRd m ρ) (kcell (c, k)) 0)
      ⊢ (|={Set.univ}=> bigSep Finset.univ fun k : KC => iprop(∃ κ : ℕ, cellInv ER (exRd m ρ) κ (kcell (c, k))) : sProp 𝕄) from by
        rw [← bigSep_sep']
        exact (bigSep_mono fun k _ => (Rounds.body_intro ER (exRd m ρ) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hl]; · iexact Hl
  iexact Hf

/-- The cells of the whole machine. -/
def records (K : Dev nD × KC → ℕ) : sProp 𝕄 :=
  iprop((bigSep Finset.univ fun ck : Dev nD × KC => cellInv ER (exRd m ρ) (K ck) (kcell ck))
    ∗ bigSep Finset.univ fun ck : Dev nD × KC => reached ER (kcell ck) 0)
instance records_persistent (K : Dev nD × KC → ℕ) : BI.Persistent (records m ρ K) := by unfold records; infer_instance

theorem regroup :
    (bigSep Finset.univ fun c : Dev nD => iprop((bigSep Finset.univ fun k : KC => iprop(∃ κ : ℕ, cellInv ER (exRd m ρ) κ (kcell (c, k))))
          ∗ (bigSep Finset.univ fun k : KC => reached ER (kcell (c, k)) 0) ∗ lin c ∗ fetch0 c) : sProp 𝕄)
      ⊢ bigSep Finset.univ (G' m ρ) := by
  rw [bigSep_sep', bigSep_sep', ← bigSep_univ_prod (fun ck : Dev nD × KC => iprop(∃ κ : ℕ, cellInv ER (exRd m ρ) κ (kcell ck))),
    ← bigSep_univ_prod (fun ck : Dev nD × KC => (reached ER (kcell ck) 0 : sProp 𝕄))]
  iintro ⟨HI, #HR, Hl⟩
  ihave HK := (BI.bigSep_exists_pi Finset.univ (fun (ck : Dev nD × KC) (κ : ℕ) => (cellInv ER (exRd m ρ) κ (kcell ck) : sProp 𝕄))) $$ HI
  icases HK with ⟨%K, #HI⟩
  have hone : ∀ c ∈ (Finset.univ : Finset (Dev nD)), iprop(records m ρ K ∗ lin c ∗ fetch0 c) ⊢ G' m ρ c := fun c _ => by
    unfold records G'
    iintro ⟨⟨#HI, #HR⟩, Hl, Hf⟩
    isplitl [Hl]
    · iexists K
      isplitr; · iexact HI
      isplitr; · iexact HR
      iexact Hl
    iexact Hf
  iapply (with_persistent (R := records m ρ K) hone)
  isplitr
  · unfold records; isplitl; · iexact HI
    iexact HR
  iexact Hl

/-- The own and the barrier semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

/-- The distances at which something is owed at the launch. -/
theorem mem_owed (e : Fin 32) : e ∈ D1.filter (fun d => 1 ≤ d.val) ↔ e ≠ 0 := by revert e; decide
theorem tallies_apply (S : Finset (Fin 32)) (f : Fin 32 → GSem nD τ sig) (n : ℕ) (g : GSem nD τ sig) :
    (∑ e ∈ S, (tallyAt (f e) () n : CellTallies nD τ sig Unit)) g () = ∑ e ∈ S, if g = f e then n else 0 := by
  rw [Finset.sum_apply, Finsupp.finset_sum_apply]
  exact Finset.sum_congr rfl fun e _ => by rw [tallyAt_apply]; simp
theorem add_eq_iff (c d e : Fin 32) : c = d + e ↔ e = c - d := by revert c d e; decide
theorem owed_bar (d c : Dev nD) : O₀ d (barCell c) () = if c - d ≠ 0 then 1 else 0 := by
  unfold O₀ OR OB
  rw [Pi.add_apply, Finsupp.add_apply, tallies_apply, tallies_apply, Finset.sum_eq_zero, Nat.zero_add]
  · rw [Finset.sum_congr rfl fun e _ => if_congr (show barCell c = barCell (d + e) ↔ e = c - d from
      ⟨fun h => (add_eq_iff c d e).mp (congrArg (fun g : GSem nD τ sig => g.1.1) h), fun h => congrArg barCell ((add_eq_iff c d e).mpr h)⟩) rfl rfl,
      Finset.sum_ite_eq']
    exact if_congr (mem_owed _) rfl rfl
  · intro e _
    exact if_neg fun h => by cases congrArg Prod.snd h
theorem owed_recv (d c s : Dev nD) (hs : c - s ≠ 0) : O₀ d (recvCell c s) () = if d = s then N else 0 := by
  unfold O₀ OR OB
  rw [Pi.add_apply, Finsupp.add_apply, tallies_apply, tallies_apply]
  have h2 : (∑ e ∈ D1.filter (fun d => 1 ≤ d.val), if recvCell c s = barCell (d + e) then 1 else 0) = 0 :=
    Finset.sum_eq_zero fun e _ => if_neg fun h => by cases congrArg Prod.snd h
  rw [h2, Nat.add_zero]
  by_cases h : d = s
  · subst h
    rw [if_pos rfl, Finset.sum_congr rfl fun e _ => if_congr (show recvCell c d = recvCell (d + e) d ↔ e = c - d from
      ⟨fun h => (add_eq_iff c d e).mp (congrArg (fun g : GSem nD τ sig => g.1.1) h), fun h => congrArg (fun x => recvCell x d) ((add_eq_iff c d e).mpr h)⟩) rfl rfl,
      Finset.sum_ite_eq']
    exact if_pos ((mem_owed _).mpr hs)
  · rw [if_neg h]
    exact Finset.sum_eq_zero fun e _ => if_neg fun h' => h (recvS_inj (SemLoc.dma.inj (congrArg Prod.snd h'))).symm
theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  exact (Equiv.sum_comp (behind c) (fun e : Fin 32 => if e ≠ 0 then 1 else 0)).trans (by decide)
theorem launch_recv (c s : Dev nD) (hs : c - s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs, Finset.sum_ite_eq' Finset.univ s fun _ => N,
    if_pos (Finset.mem_univ _)]

theorem sub_left_inj' (c a b : Fin 32) (h : c - a = c - b) : a = b := by revert c a b; decide
theorem creds (c : Dev nD) : (Pipeline.launchCred O₀ c : sProp 𝕄) ⊢ credits c := by
  unfold Pipeline.launchCred credits
  rw [bigSep_univ_at _ (SemLoc.reg barS), launch_bar]
  refine sep_mono_right ?_
  refine (bigSep_subset (t := D1.map ⟨fun h : Fin 32 => SemLoc.dma (recvS (c - h)), fun a b h => sub_left_inj' c a b (recvS_inj (SemLoc.dma.inj h))⟩) ?_).trans ?_
  · intro sm hsm
    obtain ⟨h, -, rfl⟩ := Finset.mem_map.mp hsm
    exact Finset.mem_erase.mpr ⟨fun h => (by cases h), Finset.mem_univ _⟩
  · rw [bigSep_map]
    refine each fun h hh => Entails.of_eq ?_
    have hne : c - (c - h) ≠ 0 := by rw [sub_sub_self]; exact (Finset.mem_erase.mp hh).1
    exact congrArg cred (launch_recv c (c - h) hne)

/-! ## The launch theorem's side conditions -/

theorem start_launch (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  rw [Pipeline.unscopedRestP_none]
  iintro ⟨Hw, Hlev, Hcr, -, HG⟩
  ihave Hw := (Entails.of_eq (unscopedRest0_eq c (fun b => m ((c : Thread nD τ).loc b)))) $$ Hw
  ihave Hc := (creds (F := F) c) $$ Hcr
  unfold G'
  icases HG with ⟨⟨%K, HI, HR, Hl⟩, Hf⟩
  imodintro
  unfold start ghost invs
  isplitl
  · isplitl [HI HR Hl Hlev]
    · iexists K
      isplitl [HI HR Hlev]
      · isplitl [Hlev]; · iexact Hlev
        isplitl [HI]; · iexact HI
        iexact HR
      iexact Hl
    isplitl [Hf]; · iexact Hf
    isplitl [Hc]; · iexact Hc
    iexact Hw
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scr
  iintro ⟨Hs, -, Hr⟩
  isplitl [Hs]; · iexact Hs
  iexact Hr

/-- What the launch reads at the end besides the windows' arrays: the barrier semaphore and `w`. -/
def Yof (c : Dev nD) : sProp 𝕄 := iprop(unscopedSems0 c ∗ (wLoc c ↦{fullShare} wAt m c))

theorem phi1_exit (c : Dev nD) :
    (dats m ρ 0 c).Φ (Fin.last cfg0.N) ⊢ iprop(Yof m c ∗ Pipeline.ownSems0 osem c ∗ Pipeline.scopedRest cfg0.spec c) := by
  rw [show (dats m ρ 0 c).Φ (Fin.last cfg0.N) = Φ₁ m c from rfl, scopedRest0_eq]
  unfold Φ₁ scr Yof
  iintro ⟨Hw, Hf, Hk, Hr⟩
  ihave Hs := (sems_back (F := F) c) $$ [Hf Hk]
  · isplitl [Hf] <;> iassumption
  icases Hs with ⟨Hu, Ho⟩
  isplitl [Hu Hw]
  · isplitl [Hu]; · iexact Hu
    iexact Hw
  isplitl [Ho]; · iexact Ho
  iexact Hr

theorem waits (c : Dev nD) : (levAts L lv : sProp 𝕄) ⊢ Pipeline.cellsWaits cfgs (dats m ρ) () 0 c :=
  Pipeline.cellsWaits_intro cfgs (dats m ρ) () 0 c fun w s t => by
    have hq : (((cfgs 0).win w).sem s).val < 38 := by revert w s; decide
    rcases t with ⟨_ | _, ht⟩
    · exact mayWait_launch c _ hq
    · have h := mayWait_low (F := F) c _ hq 32
      rw [OR_end] at h
      exact h

/-- Reading `w` at the end. -/
theorem read_end (c : Dev nD) (s' : Phys nD τ sig (Elt F)) :
    iprop(Yof m c ∗ emp ∗ SI s') ⊢ (|={Set.univ}=> iprop(⌜(∀ sm : SemLoc sig, sm.isScoped .tc = false → s'.mem.sem ((c.tc : Thread nD τ), sm) = 0)
      ∧ s'.mem.mem (wLoc c) = m (wLoc c)⌝ ∗ SI s') : sProp 𝕄) := by
  unfold Yof
  iintro ⟨⟨Hu, Hw⟩, -, HSI⟩
  ihave H := (persistent_entails_right (SI_pointsTo_agree (st := s') (ℓ := wLoc c) (I := Finset.univ) (q := fullShare) (f := wAt m c))) $$ [HSI Hw]
  · isplitl [HSI] <;> iassumption
  icases H with ⟨%hw, HSI, Hw⟩
  imod (Pipeline.unscopedSems0_read (X := unscopedSems0 c) (c := c) fupd_intro s') $$ [Hu HSI] with ⟨%h, HSI⟩
  · isplitl [Hu] <;> iassumption
  imodintro
  isplitr
  · ipureintro; exact ⟨h, funext fun i => hw i (Finset.mem_univ i)⟩
  iexact HSI

/-! ## The run -/

def finalA (c : Dev nD) (w : Fin cfg0.W) : Buf (Elt F) ((cfg0.win w).arr.view.loc (c : Thread nD τ)) := (dats m ρ 0 c).arrAt w cfg0.N

/-- At the end: the windows' arrays at their final contents, and `w` unchanged. -/
def QC : PUnit × MemSt nD τ sig (Elt F) → Prop := fun r =>
  ∀ c : Dev nD, (∀ w : Fin cfg0.W, r.2.mem ((cfg0.win w).arr.view.loc (c : Thread nD τ)) = finalA m ρ c w) ∧ r.2.mem (wLoc c) = m (wLoc c)

/-- From any memory with zero counters: every weakly fair execution of the 32 devices' programs terminates, with each
result array at the computed contents, the arguments unchanged and every semaphore counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (launch_split _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => Yof m c) (Z := fun _ => iprop(emp))
    (hX := start_launch m ρ) (hin := phi0_intro m ρ) (hout := phi1_exit m ρ)
    (QY := fun c s => (∀ sm : SemLoc sig, sm.isScoped .tc = false → s.sem ((c.tc : Thread nD τ), sm) = 0) ∧ s.mem (wLoc c) = m (wLoc c))
    (hY := read_end m)
    (hQ := fun _ h hs => ⟨fun c => ⟨fun w => (h c).1 w, (h c).2.2.2⟩, sem_eq_zero hs fun c => (h c).2.2.1⟩)

/-- `x` after the run holds what it held. -/
theorem finalA_x (c : Dev nD) : finalA m ρ c (0 : Fin 2) = m ((c : Thread nD τ).loc main_arg0) :=
  (dats (F := F) m ρ 0 c).arrAt_in (0 : Fin 2) rfl _

end Cert.KernelIdeal.Exchange

end

end
-- ==== Proof.Run.KernelIdeal.Value.lean ====
/-
The value of the result: in exact arithmetic, device c ends with its block of columns of the whole product.
-/
module

public import proofs.«01_k».proof.Proof.Run.KernelIdeal.Launch
public import Idealize.ShloMosaic.Lib.MatmulPlain
public import Idealize.ShloMosaic.Lib.StackMember
public import Idealize.ShloMosaic.Lib.Layout
public import Idealize.ShloMosaic.Lib.Pipeline.Value
public import Idealize.ShloMosaic.Lib.Pipeline.ValueKit.Geometry

@[expose] public section

set_option maxRecDepth 16384

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

open scoped BigOperators

/-! ## The result array is what the body leaves in its staging buffer -/

section Final
variable {F : FTy → Type} [FloatOps F]
variable (m : (ℓ : Loc nD τ sig) → Buf (Elt F) ℓ) (ρ : Dev nD → PrngReg)

/-- The windows' one point. -/
abbrev pt : Fin grid0.N := ⟨0, by decide⟩

/-- The result window has one point, and its block there is the whole array. -/
theorem whole_out : (cfg0.win 1).WholeAt pt := (by decide +kernel : win0_1.WholeAt pt)

/-- The argument window's block at its one point starts at the array's corner. -/
theorem corner_in : ∀ a, win0_0.index pt a = 0 := by decide +kernel

/-- The one write-back covers the whole result array. -/
theorem finalA_out (c : Dev nD) : finalA m ρ c (1 : Fin 2) = outAt m ρ c :=
  (dats m ρ 0 c).arrAt_eq_of_after_last (1 : Fin 2) pt whole_out (outAt m ρ c) (fun _ => rfl)

/-- The staged block is the argument array. -/
theorem xstg_eq (c : Dev nD) : xstg m ρ c = m ((c : Thread nD τ).loc main_arg0) := by
  funext j
  refine congrArg (m ((c : Thread nD τ).loc main_arg0)) ?_
  refine Shape.idx_ext₂ ?_ ?_
  · exact Pipeline.Window.rect_emb_val_of_index_zero win0_0 pt 0 (corner_in 0) j
  · exact Pipeline.Window.rect_emb_val_of_index_zero win0_0 pt 1 (corner_in 1) j

end Final

/-! ## The payloads in exact arithmetic -/

section Exact
variable (m : (ℓ : Loc nD τ sig) → Buf (Elt Ideal) ℓ) (ρ : Dev nD → PrngReg)

/-- Device `c`'s rows of `x`, -/
abbrev xOf (c : Dev nD) : FVec Ideal S128x4096 .f32 := m ((c : Thread nD τ).loc main_arg0)
/-- and its copy of `w`. -/
abbrev wOf (c : Dev nD) : FVec Ideal S4096x8192 .f32 := m ((c : Thread nD τ).loc main_arg1)

/-- Rows of `x` by columns of `w`: entry (`r`, `k`) of the first operand is `x`'s. -/
theorem xv_eq (c : Dev nD) : xv m ρ c = xOf m c := by
  exact (shapeCast_self (xstg m ρ c) shapeCasts_S128x4096_S128x4096).trans (xstg_eq m ρ c)

/-- A block product at an entry: the sum over the contracted coordinate. -/
theorem block_product (x : FVec Ideal S128x4096 .bf16) (v : Vec Ideal S1x4096x512 .f32) (r : Fin 128) (q : Fin 512) :
    k0_pay5 x v (ix2 r q) = ∑ k : Fin 4096, x (ix2 r k) * v (ix3 0 k q) := by
  refine (Ideal.matmul_plain_apply (M := 128) (K := 4096) (N := 512) none x
    (truncf .bf16 (shapeCast S4096x512 v shapeCasts_S1x4096x512_S4096x512) bitsLt_bf16_f32) (constant S128x512 .f32 0x00000000#32) r q).trans ?_
  have h0 : (constant (F := Ideal) S128x512 .f32 0x00000000#32) (ix2 r q) = 0 := Ideal.ofBits_zero_f32
  rw [h0, zero_add]
  refine Finset.sum_congr rfl fun k _ => congrArg (x (ix2 r k) * ·) ?_
  refine (shapeCast_dropUnit_apply ![4096, 512] v shapeCasts_S1x4096x512_S4096x512 (ix2 k q)).trans (congrArg v ?_)
  funext a
  match a with
  | ⟨0, _⟩ => rfl
  | ⟨1, _⟩ => rfl
  | ⟨2, _⟩ => rfl

/-- The entry of the product that device `s` forms for column `q` of its phase `p`. -/
theorem prod_apply (s : Dev nD) (p : Fin 16) (r : Fin 128) (q : Fin 512) :
    k0_pay5 (xv m ρ s) (wslot m s p) (ix2 r q)
      = ∑ k : Fin 4096, xOf m s (ix2 r k) * wOf m s (ix2 k (wcol s p q)) := by
  rw [block_product, xv_eq]
  rfl

/-- A block sent whole and read back: the unit axis added and dropped, the formats' changes exact. -/
theorem sent_even (x : FVec Ideal S128x4096 .bf16) (v : Vec Ideal S1x4096x512 .f32) (r : Fin 128) (l : Fin 256) :
    k0_pay17 (k0_pay6 x v) (ix2 r l) = k0_pay5 x v (ix2 r ⟨l.val, by omega⟩) := by
  show shapeCast S128x256 (shapeCast S1x128x256 (extractStridedSlice S128x256 ![0, 0] (k0_pay5 x v) slices_S128x512_o0_0_S128x256)
    shapeCasts_S128x256_S1x128x256) shapeCasts_S1x128x256_S128x256 (ix2 r l) = _
  rw [shapeCast_shapeCast]
  exact congrArg (k0_pay5 x v) (Shape.idx_ext₂ (Nat.zero_add _) (Nat.zero_add _))

theorem sent_odd (y : FVec Ideal S128x512 .f32) (r : Fin 128) (l : Fin 256) :
    k0_pay17 (k0_pay7 y) (ix2 r l) = y (ix2 r ⟨256 + l.val, by omega⟩) := by
  show shapeCast S128x256 (shapeCast S1x128x256 (extractStridedSlice S128x256 ![0, 256] y slices_S128x512_o0_256_S128x256)
    shapeCasts_S128x256_S1x128x256) shapeCasts_S1x128x256_S128x256 (ix2 r l) = _
  rw [shapeCast_shapeCast]
  exact congrArg y (Shape.idx_ext₂ (Nat.zero_add _) rfl)

/-- The block kept at home. -/
theorem kept (x : FVec Ideal S128x4096 .bf16) (v : Vec Ideal S1x4096x512 .f32) (r : Fin 128) (l : Fin 256) :
    k0_pay3 x v (ix2 r l) = k0_pay5 x v (ix2 r ⟨l.val, by omega⟩) := by
  show extractStridedSlice S128x256 ![0, 0] (k0_pay5 x v) slices_S128x512_o0_0_S128x256 (ix2 r l) = _
  exact congrArg (k0_pay5 x v) (Shape.idx_ext₂ (Nat.zero_add _) (Nat.zero_add _))

/-! ## Which columns of `w` a block took -/

/-- The column of `w` behind local column `l` of device `c`'s part of the result. -/
def outCol (c : Fin 32) (l : Fin 256) : Fin 8192 := ⟨c.val * 256 + l.val, by omega⟩

theorem sub_val (c s : Fin 32) : (c - s).val = (c.val + (32 - s.val)) % 32 := by
  rw [Fin.sub_def]; exact congrArg (· % 32) (Nat.add_comm _ _)

theorem wcol_home (c : Dev nD) (l : Fin 256) : wcol c 0 ⟨l.val, by omega⟩ = outCol c l := by
  have hc : c.val < 32 := c.isLt
  apply Fin.ext
  show 256 * ((c.val + 2 * 0 + l.val / 256) % 32) + l.val % 256 = c.val * 256 + l.val
  omega

theorem wcol_even (c s : Fin 32) (l : Fin 256) (h : (c - s).val % 2 = 0) :
    wcol s (phase (c - s)) ⟨l.val, by omega⟩ = outCol c l := by
  have hc : c.val < 32 := c.isLt
  have hs : s.val < 32 := s.isLt
  have hd := sub_val c s
  generalize c - s = d at h hd ⊢
  apply Fin.ext
  show 256 * ((s.val + 2 * (d.val / 2) + l.val / 256) % 32) + l.val % 256 = c.val * 256 + l.val
  omega

theorem wcol_odd (c s : Fin 32) (l : Fin 256) (h : ¬ (c - s).val % 2 = 0) :
    wcol s (phase (c - s)) ⟨256 + l.val, by omega⟩ = outCol c l := by
  have hc : c.val < 32 := c.isLt
  have hs : s.val < 32 := s.isLt
  have hd := sub_val c s
  generalize c - s = d at h hd ⊢
  apply Fin.ext
  show 256 * ((s.val + 2 * (d.val / 2) + (256 + l.val) / 256) % 32) + (256 + l.val) % 256 = c.val * 256 + l.val
  omega

/-! ## The result in exact arithmetic -/

/-- Row block `s` of device `c`'s result is device `s`'s rows of `x` by device `c`'s columns of `w`. -/
theorem outV_apply (c : Dev nD) (s : Fin 32) (r : Fin 128) (l : Fin 256) :
    outV m ρ c s (ix2 r l)
      = ∑ k : Fin 4096, xOf m s (ix2 r k) * wOf m s (ix2 k (outCol c l)) := by
  unfold outV
  split
  · next h =>
    subst h
    rw [kept, prod_apply, wcol_home]
  · unfold inboxV stageV
    split
    · next h => rw [sent_even, prod_apply, wcol_even c s l h]
    · next h => rw [sent_odd, prod, prod_apply, wcol_odd c s l h]

/-- Device `c`'s result is its block of columns of the whole product, when each device is handed its block of rows of
    `X` and the whole of `W`. -/
theorem outAt_block (X : FVec Ideal ⟨2, ![4096, 4096]⟩ .f32) (W : FVec Ideal ⟨2, ![4096, 8192]⟩ .f32)
    (hx : ∀ s : Dev nD, m ((s : Thread nD τ).loc main_arg0) = Layout.block ⟨2, ![128, 4096]⟩ ⟨2, ![4096, 4096]⟩ 0 32 s X)
    (hw : ∀ s : Dev nD, m ((s : Thread nD τ).loc main_arg1) = W) (c : Dev nD) :
    outAt m ρ c = Layout.block ⟨2, ![4096, 256]⟩ ⟨2, ![4096, 8192]⟩ 1 32 c (Host.dotGeneral (DotDims.plain 4096 4096 8192) none X W) := by
  funext z
  have hz0 : (z 0).val < 4096 := (z 0).isLt
  have hz1 : (z 1).val < 256 := (z 1).isLt
  have hc : c.val < 32 := c.isLt
  refine (outV_apply m ρ c ⟨(z 0).val / 128, by omega⟩ ⟨(z 0).val % 128, Nat.mod_lt _ (by omega)⟩ ⟨(z 1).val, hz1⟩).trans ?_
  have hi : ∀ h : Layout.Tiles ⟨2, ![4096, 256]⟩ ⟨2, ![4096, 8192]⟩ 1 32,
      h.idx c z = ix2 ⟨(z 0).val, hz0⟩ (outCol c ⟨(z 1).val, hz1⟩) := fun h => Shape.idx_ext₂ rfl rfl
  rw [Layout.block_apply, hi, StackMember.dotGeneral_plain_apply]
  refine Finset.sum_congr rfl fun k _ => ?_
  rw [show wOf m _ = W from hw _, show xOf m _ = _ from hx _]
  refine congrArg (· * _) (congrArg X (Shape.idx_ext₂ ?_ rfl))
  show (z 0).val / 128 * 128 + (z 0).val % 128 = (z 0).val
  omega

end Exact

end Cert.KernelIdeal.Exchange

end

end
-- ==== Proof.lean ====
/-
The claims: the kernel's run ends with the argument arrays unchanged and every semaphore at zero, in machine words and
in exact arithmetic; so does the reference's; and in exact arithmetic each device ends with its block of columns of the
reference's product.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run.Kernel.Launch
public import proofs.«01_k».proof.Proof.Run.KernelIdeal.Value
public import Idealize.ShloMosaic.Lib.Quiescent
public import Idealize.ShloMosaic.Adequacy
public import Idealize.ShloMosaic.Init

@[expose] public section

noncomputable section

namespace Cert.Proof

open Idealize.ShloMosaic Idealize.SL.Sem

theorem run_kernel : Cert.quiescent_Kernel := fun m g _ =>
  (θ_run Cert.Kernel.defs _ _).mono
    (fun _ h => ⟨fun c => ⟨((h.1 c).1 (0 : Fin 2)).trans (Cert.Kernel.Exchange.finalA_x m g c), (h.1 c).2⟩, h.2⟩)
    (Cert.Kernel.Exchange.run_main (F := Bits) m g)

theorem run_kernelIdeal : Cert.quiescent_KernelIdeal := fun m g _ =>
  (θ_run Cert.KernelIdeal.defs _ _).mono
    (fun _ h => ⟨fun c => ⟨((h.1 c).1 (0 : Fin 2)).trans (Cert.KernelIdeal.Exchange.finalA_x m g c), (h.1 c).2⟩, h.2⟩)
    (Cert.KernelIdeal.Exchange.run_main (F := Ideal) m g)

/-- The reference declares no semaphore. -/
theorem run_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The value both programs end with: the product of the whole arrays. -/
theorem same_value : Cert.algebraic_KernelIdeal_ReferenceIdeal := by
  intro m g m' g' _ hag
  refine ⟨Host.dotGeneral (F := Ideal) (φ₁ := .f32) (φ₂ := .f32) (DotDims.plain 4096 4096 8192) none
    (m' (((0 : Dev Cert.ReferenceIdeal.nD).tc : Thread _ Cert.ReferenceIdeal.τ).loc Cert.ReferenceIdeal.main_arg0))
    (m' (((0 : Dev Cert.ReferenceIdeal.nD).tc : Thread _ Cert.ReferenceIdeal.τ).loc Cert.ReferenceIdeal.main_arg1)), ?_, ?_⟩
  · refine (θ_run Cert.KernelIdeal.defs _ _).mono (fun _ h c => ⟨?_, ?_, ?_⟩) (Cert.KernelIdeal.Exchange.run_main (F := Ideal) m g)
    · exact (((h.1 c).1 (1 : Fin 2)).trans (Cert.KernelIdeal.Exchange.finalA_out m g c)).trans
        (Cert.KernelIdeal.Exchange.outAt_block m g _ _ (fun s => (hag s).1) (fun s => (hag s).2) c)
    · exact ((h.1 c).1 (0 : Fin 2)).trans (Cert.KernelIdeal.Exchange.finalA_x m g c)
    · exact (h.1 c).2
  · exact (θ_run Cert.ReferenceIdeal.defs _ _).mono (fun _ h => h 0) (Cert.ReferenceIdeal.Value.run (F := Ideal) m' g')

theorem claim : Cert.Claim :=
  ⟨Cert.Kernel.Gen.facts, Cert.KernelIdeal.Gen.facts, Cert.ReferenceIdeal.Gen.facts,
    run_kernel, run_kernelIdeal, run_reference, trivial, same_value⟩

end Cert.Proof

end
